-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered_boxes [hPre_ordered_boxes : Cert.Pre_ordered_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_boxes [hPre_ordered_boxes : Cert.Pre_ordered_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ordered_boxes [hKernelIdeal : Cert.KernelIdeal.Facts] [hPre_ordered_boxes : Cert.Pre_ordered_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_boxes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ordered_boxes [hReferenceIdeal : Cert.ReferenceIdeal.Facts] [hPre_ordered_boxes : Cert.Pre_ordered_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_std" .f32 0x40A00000#32 ((67108864 / 13421773 : ℝ) : EReal)

def algebraic_KernelIdeal_ReferenceIdeal_pre_ordered_boxes [hKernelIdeal : Cert.KernelIdeal.Facts] [hReferenceIdeal : Cert.ReferenceIdeal.Facts] [hPre_ordered_boxes : Cert.Pre_ordered_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ordered_boxes : Cert.Pre_ordered_boxes.Facts),
    quiescent_Kernel (hKernel := hKernel)
    ∧ quiescent_KernelIdeal (hKernelIdeal := hKernelIdeal)
    ∧ quiescent_KernelIdeal_pre_ordered_boxes (hKernelIdeal := hKernelIdeal) (hPre_ordered_boxes := hPre_ordered_boxes)
    ∧ quiescent_ReferenceIdeal (hReferenceIdeal := hReferenceIdeal)
    ∧ quiescent_ReferenceIdeal_pre_ordered_boxes (hReferenceIdeal := hReferenceIdeal) (hPre_ordered_boxes := hPre_ordered_boxes)
    ∧ preserves_Kernel_KernelIdeal
    ∧ algebraic_KernelIdeal_ReferenceIdeal_pre_ordered_boxes (hKernelIdeal := hKernelIdeal) (hReferenceIdeal := hReferenceIdeal) (hPre_ordered_boxes := hPre_ordered_boxes)
-- ==== Pre_ordered_boxes.lean ====
abbrev S8x100x5 : Shape := ⟨3, ![8, 100, 5]⟩
abbrev S20000x4 : Shape := ⟨2, ![20000, 4]⟩
abbrev S_ : Shape := ⟨0, ![]⟩
abbrev S20000x1 : Shape := ⟨2, ![20000, 1]⟩
abbrev S20000 : Shape := ⟨1, ![20000]⟩
abbrev S8x100x1 : Shape := ⟨3, ![8, 100, 1]⟩
abbrev S8x100 : Shape := ⟨2, ![8, 100]⟩
abbrev S8x1x100 : Shape := ⟨3, ![8, 1, 100]⟩
abbrev S1x20000x1 : Shape := ⟨3, ![1, 20000, 1]⟩
abbrev S8x20000x100 : Shape := ⟨3, ![8, 20000, 100]⟩

class Facts : Prop where
  bcast_S_S20000x4 : S_.BroadcastsInDim S20000x4 (![] : Fin 0 → Fin S20000x4.rank)
  slices_S20000x4_S20000x1_0_0 : S20000x4.Slices ![0, 0] S20000x1
  shapeCasts_S20000x1_S20000 : S20000x1.ShapeCasts S20000
  slices_S20000x4_S20000x1_0_1 : S20000x4.Slices ![0, 1] S20000x1
  slices_S20000x4_S20000x1_0_2 : S20000x4.Slices ![0, 2] S20000x1
  slices_S20000x4_S20000x1_0_3 : S20000x4.Slices ![0, 3] S20000x1
  bcast_S_S20000 : S_.BroadcastsInDim S20000 (![] : Fin 0 → Fin S20000.rank)
  slices_S8x100x5_S8x100x1_0_0_0 : S8x100x5.Slices ![0, 0, 0] S8x100x1
  shapeCasts_S8x100x1_S8x100 : S8x100x1.ShapeCasts S8x100
  slices_S8x100x5_S8x100x1_0_0_2 : S8x100x5.Slices ![0, 0, 2] S8x100x1
  slices_S8x100x5_S8x100x1_0_0_1 : S8x100x5.Slices ![0, 0, 1] S8x100x1
  slices_S8x100x5_S8x100x1_0_0_3 : S8x100x5.Slices ![0, 0, 3] S8x100x1
  bcast_S8x100_S8x1x100_0_2 : S8x100.BroadcastsInDim S8x1x100 (![0, 2] : Fin 2 → Fin S8x1x100.rank)
  bcast_S20000_S1x20000x1_1 : S20000.BroadcastsInDim S1x20000x1 (![1] : Fin 1 → Fin S1x20000x1.rank)
  bcast_S8x1x100_S8x20000x100_0_1_2 : S8x1x100.BroadcastsInDim S8x20000x100 (![0, 1, 2] : Fin 3 → Fin S8x20000x100.rank)
  bcast_S1x20000x1_S8x20000x100_0_1_2 : S1x20000x1.BroadcastsInDim S8x20000x100 (![0, 1, 2] : Fin 3 → Fin S8x20000x100.rank)

variable [Facts]

def fn_part1 {F : FTy → Type} [FloatOps F] (main_arg0 : FVec F S8x100x5 .f32) (main_v13 : IVec S20000 1) (main_v18 : FVec F S20000 .f32) (main_v20 : FVec F S20000 .f32) (main_v22 : FVec F S20000 .f32) : IVec S8x20000x100 1 :=
  let main_v23 : FVec F S20000 .f32 := subf main_v20 main_v22
  let main_v24 : FVec F S20000 .f32 := mulf main_v18 main_v23
  let main_cst_0 : FVec F S_ .f32 := constant S_ .f32 0x322BCC77#32
  let main_v25 : FVec F S20000 .f32 := broadcastInDim S20000 ![] bcast_S_S20000 main_cst_0
  let main_v26 : IVec S20000 1 := cmpf .oge main_v24 main_v25
  let main_v27 : IVec S20000 1 := andi main_v13 main_v26
  let main_v28 : FVec F S8x100x1 .f32 := (extractStridedSlice S8x100x1 ![0, 0, 0] · slices_S8x100x5_S8x100x1_0_0_0) main_arg0
  let main_v29 : FVec F S8x100 .f32 := shapeCast S8x100 main_v28 shapeCasts_S8x100x1_S8x100
  let main_v30 : FVec F S8x100x1 .f32 := (extractStridedSlice S8x100x1 ![0, 0, 2] · slices_S8x100x5_S8x100x1_0_0_2) main_arg0
  let main_v31 : FVec F S8x100 .f32 := shapeCast S8x100 main_v30 shapeCasts_S8x100x1_S8x100
  let main_v32 : IVec S8x100 1 := cmpf .ole main_v29 main_v31
  let main_v33 : FVec F S8x100x1 .f32 := (extractStridedSlice S8x100x1 ![0, 0, 1] · slices_S8x100x5_S8x100x1_0_0_1) main_arg0
  let main_v34 : FVec F S8x100 .f32 := shapeCast S8x100 main_v33 shapeCasts_S8x100x1_S8x100
  let main_v35 : FVec F S8x100x1 .f32 := (extractStridedSlice S8x100x1 ![0, 0, 3] · slices_S8x100x5_S8x100x1_0_0_3) main_arg0
  let main_v36 : FVec F S8x100 .f32 := shapeCast S8x100 main_v35 shapeCasts_S8x100x1_S8x100
  let main_v37 : IVec S8x100 1 := cmpf .ole main_v34 main_v36
  let main_v38 : IVec S8x100 1 := andi main_v32 main_v37
  let main_v39 : IVec S8x1x100 1 := broadcastInDim S8x1x100 ![0, 2] bcast_S8x100_S8x1x100_0_2 main_v38
  let main_v40 : IVec S1x20000x1 1 := broadcastInDim S1x20000x1 ![1] bcast_S20000_S1x20000x1_1 main_v27
  let main_v41 : IVec S8x20000x100 1 := broadcastInDim S8x20000x100 ![0, 1, 2] bcast_S8x1x100_S8x20000x100_0_1_2 main_v39
  let main_v42 : IVec S8x20000x100 1 := broadcastInDim S8x20000x100 ![0, 1, 2] bcast_S1x20000x1_S8x20000x100_0_1_2 main_v40
  let main_v43 : IVec S8x20000x100 1 := andi main_v41 main_v42
  main_v43

def fn {F : FTy → Type} [FloatOps F] (main_arg0 : FVec F S8x100x5 .f32) (main_arg1 : FVec F S20000x4 .f32) : IVec S8x20000x100 1 :=
  let main_v0 : FVec F S20000x4 .f32 := Host.absf main_arg1
  let main_cst : FVec F S_ .f32 := constant S_ .f32 0x7F800000#32
  let main_v1 : FVec F S20000x4 .f32 := broadcastInDim S20000x4 ![] bcast_S_S20000x4 main_cst
  let main_v2 : IVec S20000x4 1 := cmpf .olt main_v0 main_v1
  let main_v3 : IVec S20000x1 1 := (extractStridedSlice S20000x1 ![0, 0] · slices_S20000x4_S20000x1_0_0) main_v2
  let main_v4 : IVec S20000 1 := shapeCast S20000 main_v3 shapeCasts_S20000x1_S20000
  let main_v5 : IVec S20000x1 1 := (extractStridedSlice S20000x1 ![0, 1] · slices_S20000x4_S20000x1_0_1) main_v2
  let main_v6 : IVec S20000 1 := shapeCast S20000 main_v5 shapeCasts_S20000x1_S20000
  let main_v7 : IVec S20000 1 := andi main_v4 main_v6
  let main_v8 : IVec S20000x1 1 := (extractStridedSlice S20000x1 ![0, 2] · slices_S20000x4_S20000x1_0_2) main_v2
  let main_v9 : IVec S20000 1 := shapeCast S20000 main_v8 shapeCasts_S20000x1_S20000
  let main_v10 : IVec S20000 1 := andi main_v7 main_v9
  let main_v11 : IVec S20000x1 1 := (extractStridedSlice S20000x1 ![0, 3] · slices_S20000x4_S20000x1_0_3) main_v2
  let main_v12 : IVec S20000 1 := shapeCast S20000 main_v11 shapeCasts_S20000x1_S20000
  let main_v13 : IVec S20000 1 := andi main_v10 main_v12
  let main_v14 : FVec F S20000x1 .f32 := (extractStridedSlice S20000x1 ![0, 2] · slices_S20000x4_S20000x1_0_2) main_arg1
  let main_v15 : FVec F S20000 .f32 := shapeCast S20000 main_v14 shapeCasts_S20000x1_S20000
  let main_v16 : FVec F S20000x1 .f32 := (extractStridedSlice S20000x1 ![0, 0] · slices_S20000x4_S20000x1_0_0) main_arg1
  let main_v17 : FVec F S20000 .f32 := shapeCast S20000 main_v16 shapeCasts_S20000x1_S20000
  let main_v18 : FVec F S20000 .f32 := subf main_v15 main_v17
  let main_v19 : FVec F S20000x1 .f32 := (extractStridedSlice S20000x1 ![0, 3] · slices_S20000x4_S20000x1_0_3) main_arg1
  let main_v20 : FVec F S20000 .f32 := shapeCast S20000 main_v19 shapeCasts_S20000x1_S20000
  let main_v21 : FVec F S20000x1 .f32 := (extractStridedSlice S20000x1 ![0, 1] · slices_S20000x4_S20000x1_0_1) main_arg1
  let main_v22 : FVec F S20000 .f32 := shapeCast S20000 main_v21 shapeCasts_S20000x1_S20000
  fn_part1 (F := F) main_arg0 main_v13 main_v18 main_v20 main_v22
-- ==== Kernel.lean ====
abbrev S8x100x5 : Shape := ⟨3, ![8, 100, 5]⟩
abbrev S20000x4 : Shape := ⟨2, ![20000, 4]⟩
abbrev S_ : Shape := ⟨0, ![]⟩
abbrev S8x104x8 : Shape := ⟨3, ![8, 104, 8]⟩
abbrev S8x8x104 : Shape := ⟨3, ![8, 8, 104]⟩
abbrev S4x20000 : Shape := ⟨2, ![4, 20000]⟩
abbrev S8x80x20000 : Shape := ⟨3, ![8, 80, 20000]⟩
abbrev S8x4x20000 : Shape := ⟨3, ![8, 4, 20000]⟩
abbrev S8x1x20000 : Shape := ⟨3, ![8, 1, 20000]⟩
abbrev S1x104x8 : Shape := ⟨3, ![1, 104, 8]⟩
abbrev S1x8x104 : Shape := ⟨3, ![1, 8, 104]⟩
abbrev S4x4096 : Shape := ⟨2, ![4, 4096]⟩
abbrev S1x80x4096 : Shape := ⟨3, ![1, 80, 4096]⟩
abbrev S1x4x4096 : Shape := ⟨3, ![1, 4, 4096]⟩
abbrev S1x1x4096 : Shape := ⟨3, ![1, 1, 4096]⟩
abbrev S104x8 : Shape := ⟨2, ![104, 8]⟩
abbrev S104x1 : Shape := ⟨2, ![104, 1]⟩
abbrev S1x4096 : Shape := ⟨2, ![1, 4096]⟩
abbrev S104x4096 : Shape := ⟨2, ![104, 4096]⟩
abbrev S4096 : Shape := ⟨1, ![4096]⟩
abbrev S8x104 : Shape := ⟨2, ![8, 104]⟩
abbrev S1x104 : Shape := ⟨2, ![1, 104]⟩
abbrev S80x104 : Shape := ⟨2, ![80, 104]⟩
abbrev S80x4096 : Shape := ⟨2, ![80, 4096]⟩
abbrev S8x4096 : Shape := ⟨2, ![8, 4096]⟩
abbrev S8x20000x80 : Shape := ⟨3, ![8, 20000, 80]⟩
abbrev S8x20000x4 : Shape := ⟨3, ![8, 20000, 4]⟩
abbrev S8x20000 : Shape := ⟨2, ![8, 20000]⟩

abbrev nBuf : Space → Nat
  | .hbm => 13
  | .vmem => 12
  | .smem => 0
  | _ => 0

abbrev bufTy : (tb : Table) → Fin (tcTables nBuf tb) → BufTy
  | .hbm, ⟨0, _⟩ => ⟨S8x100x5, .f32⟩
  | .hbm, ⟨1, _⟩ => ⟨S20000x4, .f32⟩
  | .hbm, ⟨2, _⟩ => ⟨S_, .i32⟩
  | .hbm, ⟨3, _⟩ => ⟨S_, .f32⟩
  | .hbm, ⟨4, _⟩ => ⟨S8x104x8, .f32⟩
  | .hbm, ⟨5, _⟩ => ⟨S8x8x104, .f32⟩
  | .hbm, ⟨6, _⟩ => ⟨S4x20000, .f32⟩
  | .hbm, ⟨7, _⟩ => ⟨S8x80x20000, .f32⟩
  | .hbm, ⟨8, _⟩ => ⟨S8x4x20000, .f32⟩
  | .hbm, ⟨9, _⟩ => ⟨S8x1x20000, .f32⟩
  | .hbm, ⟨10, _⟩ => ⟨S8x20000x80, .f32⟩
  | .hbm, ⟨11, _⟩ => ⟨S8x20000x4, .f32⟩
  | .hbm, ⟨12, _⟩ => ⟨S8x20000, .f32⟩
  | .local _ .vmem, ⟨0, _⟩ => ⟨S1x104x8, .f32⟩
  | .local _ .vmem, ⟨1, _⟩ => ⟨S1x104x8, .f32⟩
  | .local _ .vmem, ⟨2, _⟩ => ⟨S1x8x104, .f32⟩
  | .local _ .vmem, ⟨3, _⟩ => ⟨S1x8x104, .f32⟩
  | .local _ .vmem, ⟨4, _⟩ => ⟨S4x4096, .f32⟩
  | .local _ .vmem, ⟨5, _⟩ => ⟨S4x4096, .f32⟩
  | .local _ .vmem, ⟨6, _⟩ => ⟨S1x80x4096, .f32⟩
  | .local _ .vmem, ⟨7, _⟩ => ⟨S1x80x4096, .f32⟩
  | .local _ .vmem, ⟨8, _⟩ => ⟨S1x4x4096, .f32⟩
  | .local _ .vmem, ⟨9, _⟩ => ⟨S1x4x4096, .f32⟩
  | .local _ .vmem, ⟨10, _⟩ => ⟨S1x1x4096, .f32⟩
  | .local _ .vmem, ⟨11, _⟩ => ⟨S1x1x4096, .f32⟩
  | _, _ => ⟨S8x100x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 5], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x104x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8x104 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x80x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "inv_std" => some ((67108864 / 13421773 : ℝ) : EReal)
  | _ => none
-- ==== ReferenceIdeal.lean ====
abbrev S8x100x5 : Shape := ⟨3, ![8, 100, 5]⟩
abbrev S20000x4 : Shape := ⟨2, ![20000, 4]⟩
abbrev S8x100x4 : Shape := ⟨3, ![8, 100, 4]⟩
abbrev S8x100x1 : Shape := ⟨3, ![8, 100, 1]⟩
abbrev S8x100 : Shape := ⟨2, ![8, 100]⟩
abbrev S_ : Shape := ⟨0, ![]⟩
abbrev S20000x1 : Shape := ⟨2, ![20000, 1]⟩
abbrev S20000 : Shape := ⟨1, ![20000]⟩
abbrev S8x1x100 : Shape := ⟨3, ![8, 1, 100]⟩
abbrev S1x20000x1 : Shape := ⟨3, ![1, 20000, 1]⟩
abbrev S8x20000x100 : Shape := ⟨3, ![8, 20000, 100]⟩
abbrev S8x20000 : Shape := ⟨2, ![8, 20000]⟩
abbrev S8x20000x1 : Shape := ⟨3, ![8, 20000, 1]⟩
abbrev S1 : Shape := ⟨1, ![1]⟩
abbrev S1x1x1 : Shape := ⟨3, ![1, 1, 1]⟩
abbrev S1x80 : Shape := ⟨2, ![1, 80]⟩
abbrev S1x1x80 : Shape := ⟨3, ![1, 1, 80]⟩
abbrev S8x20000x80 : Shape := ⟨3, ![8, 20000, 80]⟩
abbrev S8x20000x4 : Shape := ⟨3, ![8, 20000, 4]⟩
abbrev S1x20000 : Shape := ⟨2, ![1, 20000]⟩

abbrev nBuf : Space → Nat
  | .hbm => 231
  | .vmem => 0
  | .smem => 0
  | _ => 0

abbrev hbmTy0_0 (i : Nat) : BufTy := match i % 128 with
  | 0 => ⟨S8x100x5, .f32⟩
  | 1 => ⟨S20000x4, .f32⟩
  | 2 => ⟨S8x100x4, .f32⟩
  | 3 => ⟨S8x100x1, .f32⟩
  | 4 => ⟨S8x100, .f32⟩
  | 5 => ⟨S8x100, .i32⟩
  | 6 => ⟨S_, .i32⟩
  | 7 => ⟨S_, .i32⟩
  | 8 => ⟨S_, .i32⟩
  | 9 => ⟨S8x100, .i32⟩
  | 10 => ⟨S8x100, .i32⟩
  | 11 => ⟨S_, .i32⟩
  | 12 => ⟨S8x100, .i32⟩
  | 13 => ⟨S8x100, .i32⟩
  | 14 => ⟨S8x100x1, .f32⟩
  | 15 => ⟨S8x100, .f32⟩
  | 16 => ⟨S8x100x1, .f32⟩
  | 17 => ⟨S8x100, .f32⟩
  | 18 => ⟨S8x100, .f32⟩
  | 19 => ⟨S8x100x1, .f32⟩
  | 20 => ⟨S8x100, .f32⟩
  | 21 => ⟨S8x100x1, .f32⟩
  | 22 => ⟨S8x100, .f32⟩
  | 23 => ⟨S8x100, .f32⟩
  | 24 => ⟨S8x100, .f32⟩
  | 25 => ⟨S20000x1, .f32⟩
  | 26 => ⟨S20000, .f32⟩
  | 27 => ⟨S20000x1, .f32⟩
  | 28 => ⟨S20000, .f32⟩
  | 29 => ⟨S20000, .f32⟩
  | 30 => ⟨S20000x1, .f32⟩
  | 31 => ⟨S20000, .f32⟩
  | 32 => ⟨S20000x1, .f32⟩
  | 33 => ⟨S20000, .f32⟩
  | 34 => ⟨S20000, .f32⟩
  | 35 => ⟨S20000, .f32⟩
  | 36 => ⟨S20000x1, .f32⟩
  | 37 => ⟨S20000, .f32⟩
  | 38 => ⟨S20000x1, .f32⟩
  | 39 => ⟨S8x100x1, .f32⟩
  | 40 => ⟨S8x100, .f32⟩
  | 41 => ⟨S8x1x100, .f32⟩
  | 42 => ⟨S1x20000x1, .f32⟩
  | 43 => ⟨S8x20000x100, .f32⟩
  | 44 => ⟨S8x20000x100, .f32⟩
  | 45 => ⟨S8x20000x100, .f32⟩
  | 46 => ⟨S20000x1, .f32⟩
  | 47 => ⟨S20000, .f32⟩
  | 48 => ⟨S20000x1, .f32⟩
  | 49 => ⟨S8x100x1, .f32⟩
  | 50 => ⟨S8x100, .f32⟩
  | 51 => ⟨S8x1x100, .f32⟩
  | 52 => ⟨S1x20000x1, .f32⟩
  | 53 => ⟨S8x20000x100, .f32⟩
  | 54 => ⟨S8x20000x100, .f32⟩
  | 55 => ⟨S8x20000x100, .f32⟩
  | 56 => ⟨S8x20000x100, .f32⟩
  | 57 => ⟨S20000x1, .f32⟩
  | 58 => ⟨S20000, .f32⟩
  | 59 => ⟨S20000x1, .f32⟩
  | 60 => ⟨S8x100x1, .f32⟩
  | 61 => ⟨S8x100, .f32⟩
  | 62 => ⟨S8x1x100, .f32⟩
  | 63 => ⟨S1x20000x1, .f32⟩
  | 64 => ⟨S8x20000x100, .f32⟩
  | 65 => ⟨S8x20000x100, .f32⟩
  | 66 => ⟨S8x20000x100, .f32⟩
  | 67 => ⟨S20000x1, .f32⟩
  | 68 => ⟨S20000, .f32⟩
  | 69 => ⟨S20000x1, .f32⟩
  | 70 => ⟨S8x100x1, .f32⟩
  | 71 => ⟨S8x100, .f32⟩
  | 72 => ⟨S8x1x100, .f32⟩
  | 73 => ⟨S1x20000x1, .f32⟩
  | 74 => ⟨S8x20000x100, .f32⟩
  | 75 => ⟨S8x20000x100, .f32⟩
  | 76 => ⟨S8x20000x100, .f32⟩
  | 77 => ⟨S8x20000x100, .f32⟩
  | 78 => ⟨S_, .f32⟩
  | 79 => ⟨S8x20000x100, .f32⟩
  | 80 => ⟨S8x20000x100, .f32⟩
  | 81 => ⟨S_, .f32⟩
  | 82 => ⟨S8x20000x100, .f32⟩
  | 83 => ⟨S8x20000x100, .f32⟩
  | 84 => ⟨S8x20000x100, .f32⟩
  | 85 => ⟨S20000x1, .f32⟩
  | 86 => ⟨S8x1x100, .f32⟩
  | 87 => ⟨S1x20000x1, .f32⟩
  | 88 => ⟨S8x20000x100, .f32⟩
  | 89 => ⟨S8x20000x100, .f32⟩
  | 90 => ⟨S8x20000x100, .f32⟩
  | 91 => ⟨S8x20000x100, .f32⟩
  | 92 => ⟨S_, .f32⟩
  | 93 => ⟨S8x20000x100, .f32⟩
  | 94 => ⟨S8x20000x100, .f32⟩
  | 95 => ⟨S8x20000x100, .f32⟩
  | 96 => ⟨S_, .f32⟩
  | 97 => ⟨S8x20000, .f32⟩
  | 98 => ⟨S8x20000x100, .i32⟩
  | 99 => ⟨S_, .f32⟩
  | 100 => ⟨S_, .i32⟩
  | 101 => ⟨S8x20000, .f32⟩
  | 102 => ⟨S8x20000, .i32⟩
  | 103 => ⟨S_, .f32⟩
  | 104 => ⟨S8x20000, .f32⟩
  | 105 => ⟨S8x20000, .i1⟩
  | 106 => ⟨S_, .f32⟩
  | 107 => ⟨S8x20000, .f32⟩
  | 108 => ⟨S8x20000, .i1⟩
  | 109 => ⟨S8x20000, .i1⟩
  | 110 => ⟨S8x20000, .i1⟩
  | 111 => ⟨S8x20000, .f32⟩
  | 112 => ⟨S8x20000, .f32⟩
  | 113 => ⟨S8x20000, .f32⟩
  | 114 => ⟨S_, .i32⟩
  | 115 => ⟨S8x20000, .i32⟩
  | 116 => ⟨S8x20000, .i1⟩
  | 117 => ⟨S_, .i32⟩
  | 118 => ⟨S8x20000, .i32⟩
  | 119 => ⟨S8x20000, .i32⟩
  | 120 => ⟨S8x20000, .i32⟩
  | 121 => ⟨S8x20000x1, .i32⟩
  | 122 => ⟨S1, .i32⟩
  | 123 => ⟨S_, .i32⟩
  | 124 => ⟨S8x20000x1, .i32⟩
  | 125 => ⟨S8x20000x1, .i1⟩
  | 126 => ⟨S1x1x1, .i32⟩
  | 127 => ⟨S8x20000x1, .i32⟩
  | _ => ⟨S8x100x5, .f32⟩

abbrev hbmTy0_1 (i : Nat) : BufTy := match i % 128 with
  | 0 => ⟨S8x20000x1, .i1⟩
  | 1 => ⟨S8x20000x1, .i1⟩
  | 2 => ⟨S_, .i1⟩
  | 3 => ⟨S8x20000, .i1⟩
  | 4 => ⟨S8x20000, .i32⟩
  | 5 => ⟨S_, .i32⟩
  | 6 => ⟨S8x20000, .i32⟩
  | 7 => ⟨S8x20000, .i32⟩
  | 8 => ⟨S8x20000x1, .i32⟩
  | 9 => ⟨S1x80, .i32⟩
  | 10 => ⟨S1x1x80, .i32⟩
  | 11 => ⟨S8x20000x80, .i32⟩
  | 12 => ⟨S8x20000x80, .i32⟩
  | 13 => ⟨S8x20000x80, .i1⟩
  | 14 => ⟨S8x20000x80, .f32⟩
  | 15 => ⟨S8x20000x1, .i1⟩
  | 16 => ⟨S8x20000x1, .f32⟩
  | 17 => ⟨S8x20000x80, .f32⟩
  | 18 => ⟨S8x20000x80, .f32⟩
  | 19 => ⟨S_, .i32⟩
  | 20 => ⟨S8x20000, .i32⟩
  | 21 => ⟨S8x20000, .i1⟩
  | 22 => ⟨S_, .i32⟩
  | 23 => ⟨S8x20000, .i32⟩
  | 24 => ⟨S8x20000, .i32⟩
  | 25 => ⟨S8x20000, .i32⟩
  | 26 => ⟨S8x20000x1, .i32⟩
  | 27 => ⟨S1, .i32⟩
  | 28 => ⟨S_, .i32⟩
  | 29 => ⟨S8x20000x1, .i32⟩
  | 30 => ⟨S8x20000x1, .i1⟩
  | 31 => ⟨S1x1x1, .i32⟩
  | 32 => ⟨S8x20000x1, .i32⟩
  | 33 => ⟨S8x20000x1, .i1⟩
  | 34 => ⟨S8x20000x1, .i1⟩
  | 35 => ⟨S_, .i1⟩
  | 36 => ⟨S8x20000, .i1⟩
  | 37 => ⟨S8x20000x4, .f32⟩
  | 38 => ⟨S8x20000x4, .i1⟩
  | 39 => ⟨S_, .f32⟩
  | 40 => ⟨S8x20000x4, .f32⟩
  | 41 => ⟨S8x20000x4, .f32⟩
  | 42 => ⟨S20000x1, .f32⟩
  | 43 => ⟨S20000, .f32⟩
  | 44 => ⟨S20000x1, .f32⟩
  | 45 => ⟨S20000, .f32⟩
  | 46 => ⟨S20000, .f32⟩
  | 47 => ⟨S20000x1, .f32⟩
  | 48 => ⟨S20000, .f32⟩
  | 49 => ⟨S20000x1, .f32⟩
  | 50 => ⟨S20000, .f32⟩
  | 51 => ⟨S20000, .f32⟩
  | 52 => ⟨S8x20000x1, .f32⟩
  | 53 => ⟨S8x20000, .f32⟩
  | 54 => ⟨S20000x1, .f32⟩
  | 55 => ⟨S20000, .f32⟩
  | 56 => ⟨S1x20000, .f32⟩
  | 57 => ⟨S8x20000, .f32⟩
  | 58 => ⟨S8x20000, .f32⟩
  | 59 => ⟨S1x20000, .f32⟩
  | 60 => ⟨S8x20000, .f32⟩
  | 61 => ⟨S8x20000, .f32⟩
  | 62 => ⟨S8x20000x1, .f32⟩
  | 63 => ⟨S8x20000, .f32⟩
  | 64 => ⟨S20000x1, .f32⟩
  | 65 => ⟨S20000, .f32⟩
  | 66 => ⟨S1x20000, .f32⟩
  | 67 => ⟨S8x20000, .f32⟩
  | 68 => ⟨S8x20000, .f32⟩
  | 69 => ⟨S1x20000, .f32⟩
  | 70 => ⟨S8x20000, .f32⟩
  | 71 => ⟨S8x20000, .f32⟩
  | 72 => ⟨S8x20000x1, .f32⟩
  | 73 => ⟨S8x20000, .f32⟩
  | 74 => ⟨S20000x1, .f32⟩
  | 75 => ⟨S20000, .f32⟩
  | 76 => ⟨S1x20000, .f32⟩
  | 77 => ⟨S8x20000, .f32⟩
  | 78 => ⟨S8x20000, .f32⟩
  | 79 => ⟨S1x20000, .f32⟩
  | 80 => ⟨S8x20000, .f32⟩
  | 81 => ⟨S8x20000, .f32⟩
  | 82 => ⟨S8x20000x1, .f32⟩
  | 83 => ⟨S8x20000, .f32⟩
  | 84 => ⟨S20000x1, .f32⟩
  | 85 => ⟨S20000, .f32⟩
  | 86 => ⟨S1x20000, .f32⟩
  | 87 => ⟨S8x20000, .f32⟩
  | 88 => ⟨S8x20000, .f32⟩
  | 89 => ⟨S1x20000, .f32⟩
  | 90 => ⟨S8x20000, .f32⟩
  | 91 => ⟨S8x20000, .f32⟩
  | 92 => ⟨S8x20000x1, .f32⟩
  | 93 => ⟨S8x20000x1, .f32⟩
  | 94 => ⟨S8x20000x1, .f32⟩
  | 95 => ⟨S8x20000x1, .f32⟩
  | 96 => ⟨S8x20000x4, .f32⟩
  | 97 => ⟨S_, .f32⟩
  | 98 => ⟨S8x20000x4, .f32⟩
  | 99 => ⟨S8x20000x4, .f32⟩
  | 100 => ⟨S_, .f32⟩
  | 101 => ⟨S8x20000x4, .f32⟩
  | 102 => ⟨S8x20000x4, .f32⟩
  | _ => ⟨S8x100x5, .f32⟩

abbrev hbmTy (i : Nat) : BufTy := match i / 128 with
  | 0 => hbmTy0_0 i
  | 1 => hbmTy0_1 i
  | _ => ⟨S8x100x5, .f32⟩

abbrev bufTy : (tb : Table) → Fin (tcTables nBuf tb) → BufTy
  | .hbm, ⟨i, _⟩ => hbmTy i
  | _, _ => ⟨S8x100x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_cst : Ref sig .tc := ⟨.hbm, 78, rfl⟩
abbrev main_v69 : Ref sig .tc := ⟨.hbm, 79, rfl⟩
abbrev main_v70 : Ref sig .tc := ⟨.hbm, 80, rfl⟩
abbrev main_cst_1 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_cst_2 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_3 : Ref sig .tc := ⟨.hbm, 96, rfl⟩
abbrev main_v84 : Ref sig .tc := ⟨.hbm, 97, rfl⟩
abbrev main_call1_v0 : Ref sig .tc := ⟨.hbm, 98, rfl⟩
abbrev main_call1_cst : Ref sig .tc := ⟨.hbm, 99, rfl⟩
abbrev main_call1_c : Ref sig .tc := ⟨.hbm, 100, rfl⟩
abbrev main_call1_v1_0 : Ref sig .tc := ⟨.hbm, 101, rfl⟩
abbrev main_v85 : Ref sig .tc := ⟨.hbm, 102, rfl⟩
abbrev main_cst_4 : Ref sig .tc := ⟨.hbm, 103, rfl⟩
abbrev main_v86 : Ref sig .tc := ⟨.hbm, 104, rfl⟩
abbrev main_v87 : Ref sig .tc := ⟨.hbm, 105, rfl⟩
abbrev main_cst_5 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_call2_c : Ref sig .tc := ⟨.hbm, 114, rfl⟩
abbrev main_call2_v0 : Ref sig .tc := ⟨.hbm, 115, rfl⟩
abbrev main_call2_v1 : Ref sig .tc := ⟨.hbm, 116, rfl⟩
abbrev main_call2_c_0 : Ref sig .tc := ⟨.hbm, 117, rfl⟩
abbrev main_call2_v2 : Ref sig .tc := ⟨.hbm, 118, rfl⟩
abbrev main_call2_v3 : Ref sig .tc := ⟨.hbm, 119, rfl⟩
abbrev main_call2_v4 : Ref sig .tc := ⟨.hbm, 120, rfl⟩
abbrev main_call2_v5 : Ref sig .tc := ⟨.hbm, 121, rfl⟩
abbrev main_call2_c_1 : Ref sig .tc := ⟨.hbm, 122, rfl⟩
abbrev main_call2_c_2 : Ref sig .tc := ⟨.hbm, 123, rfl⟩
abbrev main_call2_v6 : Ref sig .tc := ⟨.hbm, 124, rfl⟩
abbrev main_call2_v7 : Ref sig .tc := ⟨.hbm, 125, rfl⟩
abbrev main_call2_v8 : Ref sig .tc := ⟨.hbm, 126, rfl⟩
abbrev main_call2_v9 : Ref sig .tc := ⟨.hbm, 127, rfl⟩
abbrev main_call2_v10 : Ref sig .tc := ⟨.hbm, 128, rfl⟩
abbrev main_call2_v11 : Ref sig .tc := ⟨.hbm, 129, rfl⟩
abbrev main_call2_c_3 : Ref sig .tc := ⟨.hbm, 130, rfl⟩
abbrev main_call2_v12 : Ref sig .tc := ⟨.hbm, 131, rfl⟩
abbrev main_call2_v13 : Ref sig .tc := ⟨.hbm, 132, rfl⟩
abbrev main_call2_c_4 : Ref sig .tc := ⟨.hbm, 133, rfl⟩
abbrev main_call2_v14 : Ref sig .tc := ⟨.hbm, 134, rfl⟩
abbrev main_v95 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call4_c : Ref sig .tc := ⟨.hbm, 147, rfl⟩
abbrev main_call4_v0 : Ref sig .tc := ⟨.hbm, 148, rfl⟩
abbrev main_call4_v1 : Ref sig .tc := ⟨.hbm, 149, rfl⟩
abbrev main_call4_c_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_c_1 : Ref sig .tc := ⟨.hbm, 155, rfl⟩
abbrev main_call4_c_2 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_3 : Ref sig .tc := ⟨.hbm, 163, rfl⟩
abbrev main_call4_v12 : Ref sig .tc := ⟨.hbm, 164, rfl⟩
abbrev main_call4_v13 : Ref sig .tc := ⟨.hbm, 165, rfl⟩
abbrev main_call4_v14 : Ref sig .tc := ⟨.hbm, 166, rfl⟩
abbrev main_call4_cst : Ref sig .tc := ⟨.hbm, 167, rfl⟩
abbrev main_call4_v15 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_cst_6 : Ref sig .tc := ⟨.hbm, 225, rfl⟩
abbrev main_v157 : Ref sig .tc := ⟨.hbm, 226, rfl⟩
abbrev main_v158 : Ref sig .tc := ⟨.hbm, 227, rfl⟩
abbrev main_cst_7 : Ref sig .tc := ⟨.hbm, 228, rfl⟩
abbrev main_v159 : Ref sig .tc := ⟨.hbm, 229, rfl⟩
abbrev main_v160 : Ref sig .tc := ⟨.hbm, 230, rfl⟩

abbrev nD : Nat := 1
abbrev τ : Topo := Topo.v7x

variable {F : FTy → Type} [FloatOps F]
-- ==== Proof.IdealBody.lean ====
/-
  The kernel body, run once on whole staging buffers: the three input buffers keep what they hold, and the three
  output buffers end holding the class targets, the regression targets and the states computed from the inputs.
-/
module

public import proofs.«01_k».proof.Proof.Gen.KernelIdeal.Frame
public import proofs.«01_k».proof.Proof.Gen.KernelIdeal.Skeleton
public import Idealize.ShloMosaic.Lib.Pipeline.ValueKit.Basic
public import Idealize.ShloMosaic.Lib.Pipeline.ValueKit.Tiles

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

/-- The row numbers 0‥103, the same in every column. -/
abbrev rowIota : IVec S104x4096 32 := iota .tc S104x4096 32 [0] iota_S104x4096_d0_w32

/-- The class targets of one tile, from the boxes, the transposed boxes and the anchors' columns. -/
def outC (x0 : Vec F S1x104x8 .f32) (x1 : Vec F S1x8x104 .f32) (x2 : Vec F S4x4096 .f32) : Vec F S1x80x4096 .f32 :=
  k0_pay15 rowIota (k0_pay8 x0 x2) (k0_pay9 x0 x2) x1

/-- The regression targets of one tile. -/
def outR (x0 : Vec F S1x104x8 .f32) (x1 : Vec F S1x8x104 .f32) (x2 : Vec F S4x4096 .f32) : Vec F S1x4x4096 .f32 :=
  k0_pay1 (k0_pay3 x2) (k0_pay4 x2) (k0_pay5 x2) (k0_pay6 x2) (k0_pay16 rowIota (k0_pay9 x0 x2) x1)
    (k0_pay17 rowIota (k0_pay9 x0 x2) x1)

/-- The states of one tile. -/
def outS (x0 : Vec F S1x104x8 .f32) (x2 : Vec F S4x4096 .f32) : Vec F S1x1x4096 .f32 :=
  k0_pay13 (k0_pay8 x0 x2)

/-- Loading the whole annotation buffer reads it as it is. -/
theorem ld_ann (X : S1x104x8.Idx → Elt F .f32) (inb) :
    View.ld X (Rect.unit ![0, 0, 0] ![1, 104, 8] inb) = X :=
  View.ld_unit_zero (S := S1x104x8) (by decide) inb X

/-- Loading the whole transposed annotation buffer reads it as it is. -/
theorem ld_annT (X : S1x8x104.Idx → Elt F .f32) (inb) :
    View.ld X (Rect.unit ![0, 0, 0] ![1, 8, 104] inb) = X :=
  View.ld_unit_zero (S := S1x8x104) (by decide) inb X

/-- Loading the whole anchor buffer reads it as it is. -/
theorem ld_anc (X : S4x4096.Idx → Elt F .f32) (inb) :
    View.ld X (Rect.unit ![0, 0] ![4, 4096] inb) = X :=
  View.ld_unit_zero (S := S4x4096) (by decide) inb X

set_option maxHeartbeats 4000000 in
/-- The body on whole buffers: the inputs stay, the outputs end at `outC`, `outR`, `outS` of the inputs. -/
theorem sound_kernel (c : Dev nD) (E : Set ℕ) (i : grid0.Coords) (arg2 : Memref sig .tc .vmem S1x104x8 .f32) (harg2 : arg2.IsWhole) (arg3 : Memref sig .tc .vmem S1x8x104 .f32) (harg3 : arg3.IsWhole) (arg4 : Memref sig .tc .vmem S4x4096 .f32) (harg4 : arg4.IsWhole) (arg5 : Memref sig .tc .vmem S1x80x4096 .f32) (harg5 : arg5.IsWhole) (arg6 : Memref sig .tc .vmem S1x4x4096 .f32) (harg6 : arg6.IsWhole) (arg7 : Memref sig .tc .vmem S1x1x4096 .f32) (harg7 : arg7.IsWhole)
    (x0 : Vec F S1x104x8 .f32) (x1 : Vec F S1x8x104 .f32) (x2 : Vec F S4x4096 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare (outC x0 x1 x2)
            ∗ owns (c : Thread nD τ) arg6 fullShare (outR x0 x1 x2) ∗ owns (c : Thread nD τ) arg7 fullShare (outS x0 x2)) -∗ K ⟨⟩))
      ⊢ wp frame (wpE (defs₀ (F := F)) Variants.none c none) E
          (cc0__body i arg2 harg2 arg3 harg3 arg4 harg4 arg5 harg5 arg6 harg6 arg7 harg7) K := by
  simp only [cc0__body_eq_skeleton]; unfold cc0__body_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (fun y => View.cover_of_tiled_head _ _ _ (by rfl) y)).trans ?_
    rw [View.canon_cons_unit_lit _ _ _ (by decide)]
    dsimp only [sound_kernel.sl.r, sound_kernel.sl.r_1, sound_kernel.sl.r_2, sound_kernel.sl.r_3, sound_kernel.sl.r_4, sound_kernel.sl.r_5, sound_kernel.sl.r_6, sound_kernel.sl.r_7, sound_kernel.sl.v42]
    simp only [View.readAt_eq_ld, ld_ann, ld_annT, ld_anc]
    rfl
  isplitl [H4]
  · iexists _; isplitr
    swap; · iexact H4
    ipureintro
    refine (View.read_writes_eq_canon _ _ _ (fun y => View.cover_of_tiled_head _ _ _ (by rfl) y)).trans ?_
    rw [View.canon_cons_unit_lit _ _ _ (by decide)]
    dsimp only [sound_kernel.sl.r, sound_kernel.sl.r_1, sound_kernel.sl.r_2, sound_kernel.sl.r_3, sound_kernel.sl.r_4, sound_kernel.sl.r_5, sound_kernel.sl.r_6, sound_kernel.sl.r_7, sound_kernel.sl.v42]
    simp only [View.readAt_eq_ld, ld_ann, ld_annT, ld_anc]
    rfl
  iexists _; isplitr
  swap; · iexact H5
  ipureintro
  refine (View.read_writes_eq_canon _ _ _ (fun y => View.cover_of_tiled_head _ _ _ (by rfl) y)).trans ?_
  rw [View.canon_cons_unit_lit _ _ _ (by decide)]
  dsimp only [sound_kernel.sl.r, sound_kernel.sl.r_1, sound_kernel.sl.r_2, sound_kernel.sl.r_3, sound_kernel.sl.r_4, sound_kernel.sl.r_5, sound_kernel.sl.r_6, sound_kernel.sl.r_7, sound_kernel.sl.v42]
  simp only [View.readAt_eq_ld, ld_ann, ld_annT, ld_anc]
  rfl

end Cert.KernelIdeal.Hand

end
-- ==== Proof.IdealRun.lean ====
/-
  The run of the idealized kernel: it terminates, the two argument arrays end as they began, and every counter is
  zero. What the three output windows receive is not described here.
-/
module

public import proofs.«01_k».proof.Proof.IdealBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Which windows the run says nothing about: the three outputs. -/
def fgt0 : Fin cfg0.W → Bool := fun w => decide (3 ≤ w.val)

/-- The anchors' block at point `t`, filled out with zero words past the array's end. -/
def ancFill (c : Dev nD) (t : Fin cfg0.N) : S4x4096.Idx → Elt F .f32 :=
  win0_2.fill (grid0.coords t) (fun _ => Scalar.ofBits .f32 0#32) (iblk m c 2 t)

/-- The proof data: the inputs' buffers keep their blocks; the outputs' contents are those of the zero-filled block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => ancFill m c t
    | ⟨3, _⟩ => outC (iblk m c 0 t) (iblk m c 1 t) (ancFill m c t)
    | ⟨4, _⟩ => outR (iblk m c 0 t) (iblk m c 1 t) (ancFill m c t)
    | ⟨5, _⟩ => outS (iblk m c 0 t) (ancFill m c t)
  Φ _ := ΦA spec0 c
  q _ := fullShare
  owed _ := 0

/-- The annotations' buffer holds its block at every point. -/
theorem before_0 (c : Dev nD) (t : Fin cfg0.N) (d) : (dats m 0 c).before 0 t d = iblk m c 0 t :=
  before0_0_of m (dats m 0 c) rfl (fun _ => rfl) t d

/-- The transposed annotations' buffer holds its block at every point. -/
theorem before_1 (c : Dev nD) (t : Fin cfg0.N) (d) : (dats m 0 c).before 1 t d = iblk m c 1 t :=
  before0_1_of m (dats m 0 c) rfl (fun _ => rfl) t d

/-- The anchors' buffer holds its block inside the array, and anything past its end. -/
theorem before_2 (c : Dev nD) (t : Fin cfg0.N) (d) :
    (dats m 0 c).before 2 t d = win0_2.fill (grid0.coords t) d (iblk m c 2 t) := by
  unfold Dat.before; rw [if_pos (fetch0_2 t)]; rfl

/-- The pipeline's body call at point `t` is the kernel body on the current buffers. -/
theorem defs₀_row (t : Fin cfg0.N) :
    defs₀ (F := F) .tc cfg0.body (cfg0.bodyArgs t (cfg0.slots t)) = bodyAt0 t := by
  unfold defs₀; rw [Defs.onTc_tc]

/-- The body at each point, the outputs' contents not described. -/
theorem body_ok (c : Dev nD) : BodyObligationLoose (dats m 0 c) (defs₀ (F := F)) Variants.none () Set.univ fgt0 := fun t => by
  rw [bigSep_W0, bigSep_W0, defs₀_row]
  rw [show (dats m 0 c).Φ t.succ = (dats m 0 c).Φ t.castSucc from rfl,
    show (dats m 0 c).owesAt () t.succ = (dats m 0 c).owesAt () t.castSucc from rfl]
  change iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ X, owns (c : Thread nD τ) (win0_3.stage (cfg0.slots t 3)) fullShare X)
      ∗ (∃ X, owns (c : Thread nD τ) (win0_4.stage (cfg0.slots t 4)) fullShare X)
      ∗ (∃ X, owns (c : Thread nD τ) (win0_5.stage (cfg0.slots t 5)) fullShare X))
    ⊢ wp frame (wpE (defs₀ (F := F)) Variants.none c none) Set.univ (bodyAt0 t) fun _ =>
      iprop((dats m 0 c).Φ t.castSucc ∗ (dats m 0 c).owesAt () t.castSucc
      ∗ owns (c : Thread nD τ) (win0_0.stage (cfg0.slots t 0)) fullShare (iblk m c 0 t)
      ∗ owns (c : Thread nD τ) (win0_1.stage (cfg0.slots t 1)) fullShare (iblk m c 1 t)
      ∗ (∃ d, owns (c : Thread nD τ) (win0_2.stage (cfg0.slots t 2)) fullShare
          (win0_2.fill (grid0.coords t) d (win0_2.cut (grid0.coords t) (ancFill m c t))))
      ∗ (∃ X, owns (c : Thread nD τ) (win0_3.stage (cfg0.slots t 3)) fullShare X)
      ∗ (∃ X, owns (c : Thread nD τ) (win0_4.stage (cfg0.slots t 4)) fullShare X)
      ∗ (∃ X, owns (c : Thread nD τ) (win0_5.stage (cfg0.slots t 5)) fullShare X))
  iintro ⟨HΦ, Ho, ⟨%d0, H0⟩, ⟨%d1, H1⟩, ⟨%d2, H2⟩, H3, H4, H5⟩
  rw [before_0, before_1, before_2]
  iapply (sound_kernel c Set.univ (grid0.coords t) _ _ _ _ _ _ _ _ _ _ _ _ (iblk m c 0 t) (iblk m c 1 t)
    (win0_2.fill (grid0.coords t) d2 (iblk m c 2 t)) _)
  isplitl [H0]
  · iexact H0
  isplitl [H1]
  · iexact H1
  isplitl [H2]
  · iexact H2
  isplitl [H3]
  · iexact H3
  isplitl [H4]
  · iexact H4
  isplitl [H5]
  · iexact H5
  iintro ⟨K0, K1, K2, K3, K4, K5⟩
  isplitl [HΦ]
  · iexact HΦ
  isplitl [Ho]
  · iexact Ho
  isplitl [K0]
  · iexact K0
  isplitl [K1]
  · iexact K1
  isplitl [K2]
  · iexists d2
    rw [show win0_2.cut (grid0.coords t) (ancFill m c t) = iblk m c 2 t from win0_2.cut_fill _ _ _]
    iexact K2
  isplitl [K3]
  · iexists _; iexact K3
  isplitl [K4]
  · iexists _; iexact K4
  iexists _; iexact K5

/-- The buffers that the operations after the region write. -/
def T0 : Finset (Ref sig .tc) := {main_v4, main_v5, main_v6}

/-- Whatever an operation after the region writes is one of those buffers. -/
theorem writes_T0 : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  by_contra hT
  have hne : ∀ r : Ref sig .tc, r ∈ T0 → b ≠ r := fun r hr h => hT (h ▸ hr)
  rcases hop with rfl | rfl | rfl
  · rw [StableHlo.unary_writes, Finset.mem_singleton] at hb
    exact StableHlo.devRef_ne_of_ne (hne main_v4 (by decide)) hb
  · rw [StableHlo.unary_writes, Finset.mem_singleton] at hb
    exact StableHlo.devRef_ne_of_ne (hne main_v5 (by decide)) hb
  · rw [StableHlo.reshape_writes, Finset.mem_singleton] at hb
    exact StableHlo.devRef_ne_of_ne (hne main_v6 (by decide)) hb

/-- The kernel terminates with its arguments unchanged and every counter at zero. -/
theorem quiescent : θ_run (defs (F := F)) (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_around_T_forget cfgs (dats m) 0 launch0 defs₀ Variants.none fgt0 T0 m ρ main
    (body_ok m) (fun c w => by unfold Dat.share; split <;> rfl) (fun _ _ => rfl) (V0 m) [hostOps1] sfx_sub sfx_fresh sfx_keeps
    writes_T0 (hmain m Variants.none) (fun _ _ => rfl) (fun _ _ => rfl) _
    (fun r h => ⟨fun c => ⟨((h.1 c).2 main_arg0 (Finset.mem_sdiff.2 ⟨Pipeline.mem_restRefs_of main_arg0 (by decide) (by decide), by decide⟩)).trans (V_main_arg0 m c),
      ((h.1 c).2 main_arg1 (Finset.mem_sdiff.2 ⟨Pipeline.mem_restRefs_of main_arg1 (by decide) (by decide), by decide⟩)).trans (V_main_arg1 m c)⟩, h.2⟩)

end Cert.KernelIdeal.Hand

end
-- ==== Proof.RefRun.lean ====
/-
  The reference program as a list of its operations, cut into short stretches, and its run: it terminates, the
  arguments stay, every counter ends at zero, and each buffer ends at what the operations leave there.
-/
module

public import proofs.«01_k».proof.Proof.Gen.ReferenceIdeal
public import Idealize.ShloMosaic.Lib.StableHlo.Run
public import Idealize.ShloMosaic.Lib.Pipeline.Frame
public import Idealize.ShloMosaic.Lib.Quiescent

@[expose] public section

set_option maxRecDepth 8192

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents of an array of shape `s` and element type `e`. -/
abbrev Arr (F : FTy → Type) [FloatOps F] (s : Shape) (e : EltTy) : Type := (⟨s, e⟩ : BufTy).Contents (Elt F)

/-- Four columns joined along the last axis. -/
def joinF (u0 u1 u2 u3 : Arr F S8x20000x1 .f32) : Arr F S8x20000x4 .f32 :=
  concatenate S8x20000x4 2 [⟨S8x20000x1, u0⟩, ⟨S8x20000x1, u1⟩, ⟨S8x20000x1, u2⟩, ⟨S8x20000x1, u3⟩] concatenates_S8x20000x1_S8x20000x1_S8x20000x1_S8x20000x1_S8x20000x4_d2

/-- The operations that compute the clipped class labels, and the boxes' four coordinates. -/
abbrev opsLab : List (HloOp τ sig (Elt F)) :=
  [ unary main_arg0 main_v0 ((extractStridedSlice S8x100x4 ![0, 0, 0] · slices_S8x100x5_S8x100x4_0_0_0) : Arr F S8x100x5 .f32 → Arr F S8x100x4 .f32),
    unary main_arg0 main_v1 ((extractStridedSlice S8x100x1 ![0, 0, 4] · slices_S8x100x5_S8x100x1_0_0_4) : Arr F S8x100x5 .f32 → Arr F S8x100x1 .f32),
    reshape main_v1 main_v2 (rfl : (.f32 : EltTy) = .f32) shapeCasts_S8x100x1_S8x100,
    unary main_v2 main_v3 (fptosi 32 : Arr F S8x100 .f32 → Arr F S8x100 .i32),
    nullary main_c (constantI S_ 32 0#32),
    nullary main_c_0 (constantI S_ 32 79#32),
    TRef.unary (TRef.of (T := ⟨S_, .i32⟩) main_c) (TRef.of (T := ⟨S_, .i32⟩) main_call0_v0) id,
    TRef.unary (TRef.of (T := ⟨S_, .i32⟩) main_call0_v0) (TRef.of (T := ⟨S8x100, .i32⟩) main_call0_v1) (broadcastInDim S8x100 ![] bcast_S_S8x100),
    TRef.binary (TRef.of (T := ⟨S8x100, .i32⟩) main_call0_v1) (TRef.of (T := ⟨S8x100, .i32⟩) main_v3) (TRef.of (T := ⟨S8x100, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S8x100, .i32⟩) main_call0_v4) (broadcastInDim S8x100 ![] bcast_S_S8x100),
    TRef.binary (TRef.of (T := ⟨S8x100, .i32⟩) main_call0_v4) (TRef.of (T := ⟨S8x100, .i32⟩) main_call0_v2) (TRef.of (T := ⟨S8x100, .i32⟩) main_v4) minsi ]

/-- The operations that compute the areas of the boxes and of the anchors. -/
abbrev opsArea : List (HloOp τ sig (Elt F)) :=
  [ unary main_v0 main_v5 ((extractStridedSlice S8x100x1 ![0, 0, 2] · slices_S8x100x4_S8x100x1_0_0_2) : Arr F S8x100x4 .f32 → Arr F S8x100x1 .f32),
    reshape main_v5 main_v6 (rfl : (.f32 : EltTy) = .f32) shapeCasts_S8x100x1_S8x100,
    unary main_v0 main_v7 ((extractStridedSlice S8x100x1 ![0, 0, 0] · slices_S8x100x4_S8x100x1_0_0_0) : Arr F S8x100x4 .f32 → Arr F S8x100x1 .f32),
    reshape main_v7 main_v8 (rfl : (.f32 : EltTy) = .f32) shapeCasts_S8x100x1_S8x100,
    binary main_v6 main_v8 main_v9 (subf : Arr F S8x100 .f32 → Arr F S8x100 .f32 → Arr F S8x100 .f32),
    unary main_v0 main_v10 ((extractStridedSlice S8x100x1 ![0, 0, 3] · slices_S8x100x4_S8x100x1_0_0_3) : Arr F S8x100x4 .f32 → Arr F S8x100x1 .f32),
    reshape main_v10 main_v11 (rfl : (.f32 : EltTy) = .f32) shapeCasts_S8x100x1_S8x100,
    unary main_v0 main_v12 ((extractStridedSlice S8x100x1 ![0, 0, 1] · slices_S8x100x4_S8x100x1_0_0_1) : Arr F S8x100x4 .f32 → Arr F S8x100x1 .f32),
    reshape main_v12 main_v13 (rfl : (.f32 : EltTy) = .f32) shapeCasts_S8x100x1_S8x100,
    binary main_v11 main_v13 main_v14 (subf : Arr F S8x100 .f32 → Arr F S8x100 .f32 → Arr F S8x100 .f32),
    binary main_v9 main_v14 main_v15 (mulf : Arr F S8x100 .f32 → Arr F S8x100 .f32 → Arr F S8x100 .f32),
    unary main_arg1 main_v16 ((extractStridedSlice S20000x1 ![0, 2] · slices_S20000x4_S20000x1_0_2) : Arr F S20000x4 .f32 → Arr F S20000x1 .f32),
    reshape main_v16 main_v17 (rfl : (.f32 : EltTy) = .f32) shapeCasts_S20000x1_S20000,
    unary main_arg1 main_v18 ((extractStridedSlice S20000x1 ![0, 0] · slices_S20000x4_S20000x1_0_0) : Arr F S20000x4 .f32 → Arr F S20000x1 .f32),
    reshape main_v18 main_v19 (rfl : (.f32 : EltTy) = .f32) shapeCasts_S20000x1_S20000,
    binary main_v17 main_v19 main_v20 (subf : Arr F S20000 .f32 → Arr F S20000 .f32 → Arr F S20000 .f32),
    unary main_arg1 main_v21 ((extractStridedSlice S20000x1 ![0, 3] · slices_S20000x4_S20000x1_0_3) : Arr F S20000x4 .f32 → Arr F S20000x1 .f32),
    reshape main_v21 main_v22 (rfl : (.f32 : EltTy) = .f32) shapeCasts_S20000x1_S20000,
    unary main_arg1 main_v23 ((extractStridedSlice S20000x1 ![0, 1] · slices_S20000x4_S20000x1_0_1) : Arr F S20000x4 .f32 → Arr F S20000x1 .f32),
    reshape main_v23 main_v24 (rfl : (.f32 : EltTy) = .f32) shapeCasts_S20000x1_S20000,
    binary main_v22 main_v24 main_v25 (subf : Arr F S20000 .f32 → Arr F S20000 .f32 → Arr F S20000 .f32),
    binary main_v20 main_v25 main_v26 (mulf : Arr F S20000 .f32 → Arr F S20000 .f32 → Arr F S20000 .f32) ]

/-- The operations that compute the overlaps along x. -/
abbrev opsOvX : List (HloOp τ sig (Elt F)) :=
  [ unary main_arg1 main_v27 ((extractStridedSlice S20000x1 ![0, 2] · slices_S20000x4_S20000x1_0_2) : Arr F S20000x4 .f32 → Arr F S20000x1 .f32),
    reshape main_v27 main_v28 (rfl : (.f32 : EltTy) = .f32) shapeCasts_S20000x1_S20000,
    unary main_v28 main_v29 (broadcastInDim S20000x1 ![0] bcast_S20000_S20000x1_0 : Arr F S20000 .f32 → Arr F S20000x1 .f32),
    unary main_v0 main_v30 ((extractStridedSlice S8x100x1 ![0, 0, 2] · slices_S8x100x4_S8x100x1_0_0_2) : Arr F S8x100x4 .f32 → Arr F S8x100x1 .f32),
    reshape main_v30 main_v31 (rfl : (.f32 : EltTy) = .f32) shapeCasts_S8x100x1_S8x100,
    unary main_v31 main_v32 (broadcastInDim S8x1x100 ![0, 2] bcast_S8x100_S8x1x100_0_2 : Arr F S8x100 .f32 → Arr F S8x1x100 .f32),
    unary main_v29 main_v33 (broadcastInDim S1x20000x1 ![1, 2] bcast_S20000x1_S1x20000x1_1_2 : Arr F S20000x1 .f32 → Arr F S1x20000x1 .f32),
    unary main_v33 main_v34 (broadcastInDim S8x20000x100 ![0, 1, 2] bcast_S1x20000x1_S8x20000x100_0_1_2 : Arr F S1x20000x1 .f32 → Arr F S8x20000x100 .f32),
    unary main_v32 main_v35 (broadcastInDim S8x20000x100 ![0, 1, 2] bcast_S8x1x100_S8x20000x100_0_1_2 : Arr F S8x1x100 .f32 → Arr F S8x20000x100 .f32),
    binary main_v34 main_v35 main_v36 (minimumf : Arr F S8x20000x100 .f32 → Arr F S8x20000x100 .f32 → Arr F S8x20000x100 .f32),
    unary main_arg1 main_v37 ((extractStridedSlice S20000x1 ![0, 0] · slices_S20000x4_S20000x1_0_0) : Arr F S20000x4 .f32 → Arr F S20000x1 .f32),
    reshape main_v37 main_v38 (rfl : (.f32 : EltTy) = .f32) shapeCasts_S20000x1_S20000,
    unary main_v38 main_v39 (broadcastInDim S20000x1 ![0] bcast_S20000_S20000x1_0 : Arr F S20000 .f32 → Arr F S20000x1 .f32),
    unary main_v0 main_v40 ((extractStridedSlice S8x100x1 ![0, 0, 0] · slices_S8x100x4_S8x100x1_0_0_0) : Arr F S8x100x4 .f32 → Arr F S8x100x1 .f32),
    reshape main_v40 main_v41 (rfl : (.f32 : EltTy) = .f32) shapeCasts_S8x100x1_S8x100,
    unary main_v41 main_v42 (broadcastInDim S8x1x100 ![0, 2] bcast_S8x100_S8x1x100_0_2 : Arr F S8x100 .f32 → Arr F S8x1x100 .f32),
    unary main_v39 main_v43 (broadcastInDim S1x20000x1 ![1, 2] bcast_S20000x1_S1x20000x1_1_2 : Arr F S20000x1 .f32 → Arr F S1x20000x1 .f32),
    unary main_v43 main_v44 (broadcastInDim S8x20000x100 ![0, 1, 2] bcast_S1x20000x1_S8x20000x100_0_1_2 : Arr F S1x20000x1 .f32 → Arr F S8x20000x100 .f32),
    unary main_v42 main_v45 (broadcastInDim S8x20000x100 ![0, 1, 2] bcast_S8x1x100_S8x20000x100_0_1_2 : Arr F S8x1x100 .f32 → Arr F S8x20000x100 .f32),
    binary main_v44 main_v45 main_v46 (maximumf : Arr F S8x20000x100 .f32 → Arr F S8x20000x100 .f32 → Arr F S8x20000x100 .f32),
    binary main_v36 main_v46 main_v47 (subf : Arr F S8x20000x100 .f32 → Arr F S8x20000x100 .f32 → Arr F S8x20000x100 .f32) ]

/-- The operations that compute the smaller lower ends along y. -/
abbrev opsMinY : List (HloOp τ sig (Elt F)) :=
  [ unary main_arg1 main_v48 ((extractStridedSlice S20000x1 ![0, 3] · slices_S20000x4_S20000x1_0_3) : Arr F S20000x4 .f32 → Arr F S20000x1 .f32),
    reshape main_v48 main_v49 (rfl : (.f32 : EltTy) = .f32) shapeCasts_S20000x1_S20000,
    unary main_v49 main_v50 (broadcastInDim S20000x1 ![0] bcast_S20000_S20000x1_0 : Arr F S20000 .f32 → Arr F S20000x1 .f32),
    unary main_v0 main_v51 ((extractStridedSlice S8x100x1 ![0, 0, 3] · slices_S8x100x4_S8x100x1_0_0_3) : Arr F S8x100x4 .f32 → Arr F S8x100x1 .f32),
    reshape main_v51 main_v52 (rfl : (.f32 : EltTy) = .f32) shapeCasts_S8x100x1_S8x100,
    unary main_v52 main_v53 (broadcastInDim S8x1x100 ![0, 2] bcast_S8x100_S8x1x100_0_2 : Arr F S8x100 .f32 → Arr F S8x1x100 .f32),
    unary main_v50 main_v54 (broadcastInDim S1x20000x1 ![1, 2] bcast_S20000x1_S1x20000x1_1_2 : Arr F S20000x1 .f32 → Arr F S1x20000x1 .f32),
    unary main_v54 main_v55 (broadcastInDim S8x20000x100 ![0, 1, 2] bcast_S1x20000x1_S8x20000x100_0_1_2 : Arr F S1x20000x1 .f32 → Arr F S8x20000x100 .f32),
    unary main_v53 main_v56 (broadcastInDim S8x20000x100 ![0, 1, 2] bcast_S8x1x100_S8x20000x100_0_1_2 : Arr F S8x1x100 .f32 → Arr F S8x20000x100 .f32),
    binary main_v55 main_v56 main_v57 (minimumf : Arr F S8x20000x100 .f32 → Arr F S8x20000x100 .f32 → Arr F S8x20000x100 .f32) ]

/-- The operations that compute the intersections. -/
abbrev opsInter : List (HloOp τ sig (Elt F)) :=
  [ unary main_arg1 main_v58 ((extractStridedSlice S20000x1 ![0, 1] · slices_S20000x4_S20000x1_0_1) : Arr F S20000x4 .f32 → Arr F S20000x1 .f32),
    reshape main_v58 main_v59 (rfl : (.f32 : EltTy) = .f32) shapeCasts_S20000x1_S20000,
    unary main_v59 main_v60 (broadcastInDim S20000x1 ![0] bcast_S20000_S20000x1_0 : Arr F S20000 .f32 → Arr F S20000x1 .f32),
    unary main_v0 main_v61 ((extractStridedSlice S8x100x1 ![0, 0, 1] · slices_S8x100x4_S8x100x1_0_0_1) : Arr F S8x100x4 .f32 → Arr F S8x100x1 .f32),
    reshape main_v61 main_v62 (rfl : (.f32 : EltTy) = .f32) shapeCasts_S8x100x1_S8x100,
    unary main_v62 main_v63 (broadcastInDim S8x1x100 ![0, 2] bcast_S8x100_S8x1x100_0_2 : Arr F S8x100 .f32 → Arr F S8x1x100 .f32),
    unary main_v60 main_v64 (broadcastInDim S1x20000x1 ![1, 2] bcast_S20000x1_S1x20000x1_1_2 : Arr F S20000x1 .f32 → Arr F S1x20000x1 .f32),
    unary main_v64 main_v65 (broadcastInDim S8x20000x100 ![0, 1, 2] bcast_S1x20000x1_S8x20000x100_0_1_2 : Arr F S1x20000x1 .f32 → Arr F S8x20000x100 .f32),
    unary main_v63 main_v66 (broadcastInDim S8x20000x100 ![0, 1, 2] bcast_S8x1x100_S8x20000x100_0_1_2 : Arr F S8x1x100 .f32 → Arr F S8x20000x100 .f32),
    binary main_v65 main_v66 main_v67 (maximumf : Arr F S8x20000x100 .f32 → Arr F S8x20000x100 .f32 → Arr F S8x20000x100 .f32),
    binary main_v57 main_v67 main_v68 (subf : Arr F S8x20000x100 .f32 → Arr F S8x20000x100 .f32 → Arr F S8x20000x100 .f32),
    nullary main_cst (constant S_ .f32 0x00000000#32),
    unary main_cst main_v69 (broadcastInDim S8x20000x100 ![] bcast_S_S8x20000x100 : Arr F S_ .f32 → Arr F S8x20000x100 .f32),
    binary main_v47 main_v69 main_v70 (maximumf : Arr F S8x20000x100 .f32 → Arr F S8x20000x100 .f32 → Arr F S8x20000x100 .f32),
    nullary main_cst_1 (constant S_ .f32 0x00000000#32),
    unary main_cst_1 main_v71 (broadcastInDim S8x20000x100 ![] bcast_S_S8x20000x100 : Arr F S_ .f32 → Arr F S8x20000x100 .f32),
    binary main_v68 main_v71 main_v72 (maximumf : Arr F S8x20000x100 .f32 → Arr F S8x20000x100 .f32 → Arr F S8x20000x100 .f32),
    binary main_v70 main_v72 main_v73 (mulf : Arr F S8x20000x100 .f32 → Arr F S8x20000x100 .f32 → Arr F S8x20000x100 .f32) ]

/-- The operations that compute the overlap ratios. -/
abbrev opsIou : List (HloOp τ sig (Elt F)) :=
  [ unary main_v26 main_v74 (broadcastInDim S20000x1 ![0] bcast_S20000_S20000x1_0 : Arr F S20000 .f32 → Arr F S20000x1 .f32),
    unary main_v15 main_v75 (broadcastInDim S8x1x100 ![0, 2] bcast_S8x100_S8x1x100_0_2 : Arr F S8x100 .f32 → Arr F S8x1x100 .f32),
    unary main_v74 main_v76 (broadcastInDim S1x20000x1 ![1, 2] bcast_S20000x1_S1x20000x1_1_2 : Arr F S20000x1 .f32 → Arr F S1x20000x1 .f32),
    unary main_v76 main_v77 (broadcastInDim S8x20000x100 ![0, 1, 2] bcast_S1x20000x1_S8x20000x100_0_1_2 : Arr F S1x20000x1 .f32 → Arr F S8x20000x100 .f32),
    unary main_v75 main_v78 (broadcastInDim S8x20000x100 ![0, 1, 2] bcast_S8x1x100_S8x20000x100_0_1_2 : Arr F S8x1x100 .f32 → Arr F S8x20000x100 .f32),
    binary main_v77 main_v78 main_v79 (addf : Arr F S8x20000x100 .f32 → Arr F S8x20000x100 .f32 → Arr F S8x20000x100 .f32),
    binary main_v79 main_v73 main_v80 (subf : Arr F S8x20000x100 .f32 → Arr F S8x20000x100 .f32 → Arr F S8x20000x100 .f32),
    nullary main_cst_2 (constant S_ .f32 0x322BCC77#32),
    unary main_cst_2 main_v81 (broadcastInDim S8x20000x100 ![] bcast_S_S8x20000x100 : Arr F S_ .f32 → Arr F S8x20000x100 .f32),
    binary main_v80 main_v81 main_v82 (maximumf : Arr F S8x20000x100 .f32 → Arr F S8x20000x100 .f32 → Arr F S8x20000x100 .f32),
    binary main_v73 main_v82 main_v83 (Host.divf : Arr F S8x20000x100 .f32 → Arr F S8x20000x100 .f32 → Arr F S8x20000x100 .f32) ]

/-- The operations that compute the best overlap of each anchor, its box, and the states. -/
abbrev opsBest : List (HloOp τ sig (Elt F)) :=
  [ nullary main_cst_3 (constant S_ .f32 0xFF800000#32),
    binary main_v83 main_cst_3 main_v84 ((fun x v => Host.reduce FloatOps.maximumf x v reducesTo_S8x20000x100_S8x20000_d2 h_S_) : Arr F S8x20000x100 .f32 → Arr F S_ .f32 → Arr F S8x20000 .f32),
    TRef.nullary (TRef.of (T := ⟨S8x20000x100, .i32⟩) main_call1_v0) (iotaInDim S8x20000x100 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S8x20000x100, .f32⟩) main_v83) (TRef.of (T := ⟨S8x20000x100, .i32⟩) main_call1_v0) (TRef.of (T := ⟨S_, .f32⟩) main_call1_cst) (TRef.of (T := ⟨S_, .i32⟩) main_call1_c) (TRef.of (T := ⟨S8x20000, .f32⟩) main_call1_v1_0) (fun x y u v j => (Host.argReduce reducer_argmax_f32_i32 x y u v reducesTo_S8x20000x100_S8x20000_d2 h_S_ j).1),
    TRef.quaternary (TRef.of (T := ⟨S8x20000x100, .f32⟩) main_v83) (TRef.of (T := ⟨S8x20000x100, .i32⟩) main_call1_v0) (TRef.of (T := ⟨S_, .f32⟩) main_call1_cst) (TRef.of (T := ⟨S_, .i32⟩) main_call1_c) (TRef.of (T := ⟨S8x20000, .i32⟩) main_v85) (fun x y u v j => (Host.argReduce reducer_argmax_f32_i32 x y u v reducesTo_S8x20000x100_S8x20000_d2 h_S_ j).2),
    nullary main_cst_4 (constant S_ .f32 0x3F000000#32),
    unary main_cst_4 main_v86 (broadcastInDim S8x20000 ![] bcast_S_S8x20000 : Arr F S_ .f32 → Arr F S8x20000 .f32),
    binary main_v84 main_v86 main_v87 (cmpf .oge : Arr F S8x20000 .f32 → Arr F S8x20000 .f32 → Arr F S8x20000 .i1),
    nullary main_cst_5 (constant S_ .f32 0x3ECCCCCD#32),
    unary main_cst_5 main_v88 (broadcastInDim S8x20000 ![] bcast_S_S8x20000 : Arr F S_ .f32 → Arr F S8x20000 .f32),
    binary main_v84 main_v88 main_v89 (cmpf .ogt : Arr F S8x20000 .f32 → Arr F S8x20000 .f32 → Arr F S8x20000 .i1),
    unary main_v87 main_v90 (noti : Arr F S8x20000 .i1 → Arr F S8x20000 .i1),
    binary main_v89 main_v90 main_v91 (andi : Arr F S8x20000 .i1 → Arr F S8x20000 .i1 → Arr F S8x20000 .i1),
    unary main_v87 main_v92 (uitofp .f32 : Arr F S8x20000 .i1 → Arr F S8x20000 .f32),
    unary main_v91 main_v93 (uitofp .f32 : Arr F S8x20000 .i1 → Arr F S8x20000 .f32),
    binary main_v92 main_v93 main_v94 (subf : Arr F S8x20000 .f32 → Arr F S8x20000 .f32 → Arr F S8x20000 .f32) ]

/-- The operations that compute the label of the best box. -/
abbrev opsLook : List (HloOp τ sig (Elt F)) :=
  [ TRef.nullary (TRef.of (T := ⟨S_, .i32⟩) main_call2_c) (constantI S_ 32 0#32),
    TRef.unary (TRef.of (T := ⟨S_, .i32⟩) main_call2_c) (TRef.of (T := ⟨S8x20000, .i32⟩) main_call2_v0) (broadcastInDim S8x20000 ![] bcast_S_S8x20000),
    TRef.binary (TRef.of (T := ⟨S8x20000, .i32⟩) main_v85) (TRef.of (T := ⟨S8x20000, .i32⟩) main_call2_v0) (TRef.of (T := ⟨S8x20000, .i1⟩) main_call2_v1) (cmpi .slt),
    TRef.nullary (TRef.of (T := ⟨S_, .i32⟩) main_call2_c_0) (constantI S_ 32 100#32),
    TRef.unary (TRef.of (T := ⟨S_, .i32⟩) main_call2_c_0) (TRef.of (T := ⟨S8x20000, .i32⟩) main_call2_v2) (broadcastInDim S8x20000 ![] bcast_S_S8x20000),
    TRef.binary (TRef.of (T := ⟨S8x20000, .i32⟩) main_v85) (TRef.of (T := ⟨S8x20000, .i32⟩) main_call2_v2) (TRef.of (T := ⟨S8x20000, .i32⟩) main_call2_v3) addi,
    TRef.ternary (TRef.of (T := ⟨S8x20000, .i1⟩) main_call2_v1) (TRef.of (T := ⟨S8x20000, .i32⟩) main_call2_v3) (TRef.of (T := ⟨S8x20000, .i32⟩) main_v85) (TRef.of (T := ⟨S8x20000, .i32⟩) main_call2_v4) select,
    TRef.unary (TRef.of (T := ⟨S8x20000, .i32⟩) main_call2_v4) (TRef.of (T := ⟨S8x20000x1, .i32⟩) main_call2_v5) (broadcastInDim S8x20000x1 ![0, 1] bcast_S8x20000_S8x20000x1_0_1),
    TRef.nullary (TRef.of (T := ⟨S1, .i32⟩) main_call2_c_1) (constantI S1 32 99#32),
    TRef.nullary (TRef.of (T := ⟨S_, .i32⟩) main_call2_c_2) (constantI S_ 32 0#32),
    TRef.unary (TRef.of (T := ⟨S_, .i32⟩) main_call2_c_2) (TRef.of (T := ⟨S8x20000x1, .i32⟩) main_call2_v6) (broadcastInDim S8x20000x1 ![] bcast_S_S8x20000x1),
    TRef.binary (TRef.of (T := ⟨S8x20000x1, .i32⟩) main_call2_v5) (TRef.of (T := ⟨S8x20000x1, .i32⟩) main_call2_v6) (TRef.of (T := ⟨S8x20000x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8x20000x1, .i32⟩) main_call2_v9) (broadcastInDim S8x20000x1 ![0, 1, 2] bcast_S1x1x1_S8x20000x1_0_1_2),
    TRef.binary (TRef.of (T := ⟨S8x20000x1, .i32⟩) main_call2_v5) (TRef.of (T := ⟨S8x20000x1, .i32⟩) main_call2_v9) (TRef.of (T := ⟨S8x20000x1, .i1⟩) main_call2_v10) (cmpi .sle),
    TRef.binary (TRef.of (T := ⟨S8x20000x1, .i1⟩) main_call2_v7) (TRef.of (T := ⟨S8x20000x1, .i1⟩) main_call2_v10) (TRef.of (T := ⟨S8x20000x1, .i1⟩) main_call2_v11) andi,
    TRef.nullary (TRef.of (T := ⟨S_, .i1⟩) main_call2_c_3) (constantI S_ 1 1#1),
    TRef.binary (TRef.of (T := ⟨S8x20000x1, .i1⟩) main_call2_v11) (TRef.of (T := ⟨S_, .i1⟩) main_call2_c_3) (TRef.of (T := ⟨S8x20000, .i1⟩) main_call2_v12) (fun x v => Host.reduce IntOp.andi x v reducesTo_S8x20000x1_S8x20000_d2 h_S_),
    TRef.binary (TRef.of (T := ⟨S8x100, .i32⟩) main_v4) (TRef.of (T := ⟨S8x20000x1, .i32⟩) main_call2_v5) (TRef.of (T := ⟨S8x20000, .i32⟩) main_call2_v13) (fun x i => Host.gather gather_S8x100_S8x20000x1_S8x20000_n_1_0_0_1_2_11 x i),
    TRef.nullary (TRef.of (T := ⟨S_, .i32⟩) main_call2_c_4) (constantI S_ 32 2147483648#32),
    TRef.unary (TRef.of (T := ⟨S_, .i32⟩) main_call2_c_4) (TRef.of (T := ⟨S8x20000, .i32⟩) main_call2_v14) (broadcastInDim S8x20000 ![] bcast_S_S8x20000),
    TRef.ternary (TRef.of (T := ⟨S8x20000, .i1⟩) main_call2_v12) (TRef.of (T := ⟨S8x20000, .i32⟩) main_call2_v13) (TRef.of (T := ⟨S8x20000, .i32⟩) main_call2_v14) (TRef.of (T := ⟨S8x20000, .i32⟩) main_v95) select ]

/-- The operations that compute the class targets. -/
abbrev opsCls : List (HloOp τ sig (Elt F)) :=
  [ TRef.unary (TRef.of (T := ⟨S8x20000, .i32⟩) main_v95) (TRef.of (T := ⟨S8x20000x1, .i32⟩) main_call3_v0) (broadcastInDim S8x20000x1 ![0, 1] bcast_S8x20000_S8x20000x1_0_1),
    TRef.nullary (TRef.of (T := ⟨S1x80, .i32⟩) main_call3_v1) (iotaInDim S1x80 32 1),
    TRef.unary (TRef.of (T := ⟨S1x80, .i32⟩) main_call3_v1) (TRef.of (T := ⟨S1x1x80, .i32⟩) main_call3_v2) (broadcastInDim S1x1x80 ![1, 2] bcast_S1x80_S1x1x80_1_2),
    TRef.unary (TRef.of (T := ⟨S8x20000x1, .i32⟩) main_call3_v0) (TRef.of (T := ⟨S8x20000x80, .i32⟩) main_call3_v3) (broadcastInDim S8x20000x80 ![0, 1, 2] bcast_S8x20000x1_S8x20000x80_0_1_2),
    TRef.unary (TRef.of (T := ⟨S1x1x80, .i32⟩) main_call3_v2) (TRef.of (T := ⟨S8x20000x80, .i32⟩) main_call3_v4) (broadcastInDim S8x20000x80 ![0, 1, 2] bcast_S1x1x80_S8x20000x80_0_1_2),
    TRef.binary (TRef.of (T := ⟨S8x20000x80, .i32⟩) main_call3_v3) (TRef.of (T := ⟨S8x20000x80, .i32⟩) main_call3_v4) (TRef.of (T := ⟨S8x20000x80, .i1⟩) main_call3_v5) (cmpi .eq),
    TRef.unary (TRef.of (T := ⟨S8x20000x80, .i1⟩) main_call3_v5) (TRef.of (T := ⟨S8x20000x80, .f32⟩) main_v96) (uitofp .f32),
    unary main_v87 main_v97 (broadcastInDim S8x20000x1 ![0, 1] bcast_S8x20000_S8x20000x1_0_1 : Arr F S8x20000 .i1 → Arr F S8x20000x1 .i1),
    unary main_v97 main_v98 (uitofp .f32 : Arr F S8x20000x1 .i1 → Arr F S8x20000x1 .f32),
    unary main_v98 main_v99 (broadcastInDim S8x20000x80 ![0, 1, 2] bcast_S8x20000x1_S8x20000x80_0_1_2 : Arr F S8x20000x1 .f32 → Arr F S8x20000x80 .f32),
    binary main_v96 main_v99 main_v100 (mulf : Arr F S8x20000x80 .f32 → Arr F S8x20000x80 .f32 → Arr F S8x20000x80 .f32) ]

/-- The operations that compute the best box. -/
abbrev opsBox : List (HloOp τ sig (Elt F)) :=
  [ TRef.nullary (TRef.of (T := ⟨S_, .i32⟩) main_call4_c) (constantI S_ 32 0#32),
    TRef.unary (TRef.of (T := ⟨S_, .i32⟩) main_call4_c) (TRef.of (T := ⟨S8x20000, .i32⟩) main_call4_v0) (broadcastInDim S8x20000 ![] bcast_S_S8x20000),
    TRef.binary (TRef.of (T := ⟨S8x20000, .i32⟩) main_v85) (TRef.of (T := ⟨S8x20000, .i32⟩) main_call4_v0) (TRef.of (T := ⟨S8x20000, .i1⟩) main_call4_v1) (cmpi .slt),
    TRef.nullary (TRef.of (T := ⟨S_, .i32⟩) main_call4_c_0) (constantI S_ 32 100#32),
    TRef.unary (TRef.of (T := ⟨S_, .i32⟩) main_call4_c_0) (TRef.of (T := ⟨S8x20000, .i32⟩) main_call4_v2) (broadcastInDim S8x20000 ![] bcast_S_S8x20000),
    TRef.binary (TRef.of (T := ⟨S8x20000, .i32⟩) main_v85) (TRef.of (T := ⟨S8x20000, .i32⟩) main_call4_v2) (TRef.of (T := ⟨S8x20000, .i32⟩) main_call4_v3) addi,
    TRef.ternary (TRef.of (T := ⟨S8x20000, .i1⟩) main_call4_v1) (TRef.of (T := ⟨S8x20000, .i32⟩) main_call4_v3) (TRef.of (T := ⟨S8x20000, .i32⟩) main_v85) (TRef.of (T := ⟨S8x20000, .i32⟩) main_call4_v4) select,
    TRef.unary (TRef.of (T := ⟨S8x20000, .i32⟩) main_call4_v4) (TRef.of (T := ⟨S8x20000x1, .i32⟩) main_call4_v5) (broadcastInDim S8x20000x1 ![0, 1] bcast_S8x20000_S8x20000x1_0_1),
    TRef.nullary (TRef.of (T := ⟨S1, .i32⟩) main_call4_c_1) (constantI S1 32 99#32),
    TRef.nullary (TRef.of (T := ⟨S_, .i32⟩) main_call4_c_2) (constantI S_ 32 0#32),
    TRef.unary (TRef.of (T := ⟨S_, .i32⟩) main_call4_c_2) (TRef.of (T := ⟨S8x20000x1, .i32⟩) main_call4_v6) (broadcastInDim S8x20000x1 ![] bcast_S_S8x20000x1),
    TRef.binary (TRef.of (T := ⟨S8x20000x1, .i32⟩) main_call4_v5) (TRef.of (T := ⟨S8x20000x1, .i32⟩) main_call4_v6) (TRef.of (T := ⟨S8x20000x1, .i1⟩) main_call4_v7) (cmpi .sge),
    TRef.unary (TRef.of (T := ⟨S1, .i32⟩) main_call4_c_1) (TRef.of (T := ⟨S1x1x1, .i32⟩) main_call4_v8) (broadcastInDim S1x1x1 ![2] bcast_S1_S1x1x1_2),
    TRef.unary (TRef.of (T := ⟨S1x1x1, .i32⟩) main_call4_v8) (TRef.of (T := ⟨S8x20000x1, .i32⟩) main_call4_v9) (broadcastInDim S8x20000x1 ![0, 1, 2] bcast_S1x1x1_S8x20000x1_0_1_2),
    TRef.binary (TRef.of (T := ⟨S8x20000x1, .i32⟩) main_call4_v5) (TRef.of (T := ⟨S8x20000x1, .i32⟩) main_call4_v9) (TRef.of (T := ⟨S8x20000x1, .i1⟩) main_call4_v10) (cmpi .sle),
    TRef.binary (TRef.of (T := ⟨S8x20000x1, .i1⟩) main_call4_v7) (TRef.of (T := ⟨S8x20000x1, .i1⟩) main_call4_v10) (TRef.of (T := ⟨S8x20000x1, .i1⟩) main_call4_v11) andi,
    TRef.nullary (TRef.of (T := ⟨S_, .i1⟩) main_call4_c_3) (constantI S_ 1 1#1),
    TRef.binary (TRef.of (T := ⟨S8x20000x1, .i1⟩) main_call4_v11) (TRef.of (T := ⟨S_, .i1⟩) main_call4_c_3) (TRef.of (T := ⟨S8x20000, .i1⟩) main_call4_v12) (fun x v => Host.reduce IntOp.andi x v reducesTo_S8x20000x1_S8x20000_d2 h_S_),
    TRef.binary (TRef.of (T := ⟨S8x100x4, .f32⟩) main_v0) (TRef.of (T := ⟨S8x20000x1, .i32⟩) main_call4_v5) (TRef.of (T := ⟨S8x20000x4, .f32⟩) main_call4_v13) (fun x i => Host.gather gather_S8x100x4_S8x20000x1_S8x20000x4_2_1_0_0_1_2_114 x i),
    TRef.unary (TRef.of (T := ⟨S8x20000, .i1⟩) main_call4_v12) (TRef.of (T := ⟨S8x20000x4, .i1⟩) main_call4_v14) (broadcastInDim S8x20000x4 ![0, 1] bcast_S8x20000_S8x20000x4_0_1),
    TRef.nullary (TRef.of (T := ⟨S_, .f32⟩) main_call4_cst) (constant S_ .f32 0x7FC00000#32),
    TRef.unary (TRef.of (T := ⟨S_, .f32⟩) main_call4_cst) (TRef.of (T := ⟨S8x20000x4, .f32⟩) main_call4_v15) (broadcastInDim S8x20000x4 ![] bcast_S_S8x20000x4),
    TRef.ternary (TRef.of (T := ⟨S8x20000x4, .i1⟩) main_call4_v14) (TRef.of (T := ⟨S8x20000x4, .f32⟩) main_call4_v13) (TRef.of (T := ⟨S8x20000x4, .f32⟩) main_call4_v15) (TRef.of (T := ⟨S8x20000x4, .f32⟩) main_v101) select ]

/-- The operations that compute the anchors' widths and heights. -/
abbrev opsSize : List (HloOp τ sig (Elt F)) :=
  [ unary main_arg1 main_v102 ((extractStridedSlice S20000x1 ![0, 2] · slices_S20000x4_S20000x1_0_2) : Arr F S20000x4 .f32 → Arr F S20000x1 .f32),
    reshape main_v102 main_v103 (rfl : (.f32 : EltTy) = .f32) shapeCasts_S20000x1_S20000,
    unary main_arg1 main_v104 ((extractStridedSlice S20000x1 ![0, 0] · slices_S20000x4_S20000x1_0_0) : Arr F S20000x4 .f32 → Arr F S20000x1 .f32),
    reshape main_v104 main_v105 (rfl : (.f32 : EltTy) = .f32) shapeCasts_S20000x1_S20000,
    binary main_v103 main_v105 main_v106 (subf : Arr F S20000 .f32 → Arr F S20000 .f32 → Arr F S20000 .f32),
    unary main_arg1 main_v107 ((extractStridedSlice S20000x1 ![0, 3] · slices_S20000x4_S20000x1_0_3) : Arr F S20000x4 .f32 → Arr F S20000x1 .f32),
    reshape main_v107 main_v108 (rfl : (.f32 : EltTy) = .f32) shapeCasts_S20000x1_S20000,
    unary main_arg1 main_v109 ((extractStridedSlice S20000x1 ![0, 1] · slices_S20000x4_S20000x1_0_1) : Arr F S20000x4 .f32 → Arr F S20000x1 .f32),
    reshape main_v109 main_v110 (rfl : (.f32 : EltTy) = .f32) shapeCasts_S20000x1_S20000,
    binary main_v108 main_v110 main_v111 (subf : Arr F S20000 .f32 → Arr F S20000 .f32 → Arr F S20000 .f32) ]

/-- The operations that compute the four scaled differences. -/
abbrev opsDiff : List (HloOp τ sig (Elt F)) :=
  [ unary main_v101 main_v112 ((extractStridedSlice S8x20000x1 ![0, 0, 0] · slices_S8x20000x4_S8x20000x1_0_0_0) : Arr F S8x20000x4 .f32 → Arr F S8x20000x1 .f32),
    reshape main_v112 main_v113 (rfl : (.f32 : EltTy) = .f32) shapeCasts_S8x20000x1_S8x20000,
    unary main_arg1 main_v114 ((extractStridedSlice S20000x1 ![0, 0] · slices_S20000x4_S20000x1_0_0) : Arr F S20000x4 .f32 → Arr F S20000x1 .f32),
    reshape main_v114 main_v115 (rfl : (.f32 : EltTy) = .f32) shapeCasts_S20000x1_S20000,
    unary main_v115 main_v116 (broadcastInDim S1x20000 ![1] bcast_S20000_S1x20000_1 : Arr F S20000 .f32 → Arr F S1x20000 .f32),
    unary main_v116 main_v117 (broadcastInDim S8x20000 ![0, 1] bcast_S1x20000_S8x20000_0_1 : Arr F S1x20000 .f32 → Arr F S8x20000 .f32),
    binary main_v113 main_v117 main_v118 (subf : Arr F S8x20000 .f32 → Arr F S8x20000 .f32 → Arr F S8x20000 .f32),
    unary main_v106 main_v119 (broadcastInDim S1x20000 ![1] bcast_S20000_S1x20000_1 : Arr F S20000 .f32 → Arr F S1x20000 .f32),
    unary main_v119 main_v120 (broadcastInDim S8x20000 ![0, 1] bcast_S1x20000_S8x20000_0_1 : Arr F S1x20000 .f32 → Arr F S8x20000 .f32),
    binary main_v118 main_v120 main_v121 (Host.divf : Arr F S8x20000 .f32 → Arr F S8x20000 .f32 → Arr F S8x20000 .f32),
    unary main_v101 main_v122 ((extractStridedSlice S8x20000x1 ![0, 0, 1] · slices_S8x20000x4_S8x20000x1_0_0_1) : Arr F S8x20000x4 .f32 → Arr F S8x20000x1 .f32),
    reshape main_v122 main_v123 (rfl : (.f32 : EltTy) = .f32) shapeCasts_S8x20000x1_S8x20000,
    unary main_arg1 main_v124 ((extractStridedSlice S20000x1 ![0, 1] · slices_S20000x4_S20000x1_0_1) : Arr F S20000x4 .f32 → Arr F S20000x1 .f32),
    reshape main_v124 main_v125 (rfl : (.f32 : EltTy) = .f32) shapeCasts_S20000x1_S20000,
    unary main_v125 main_v126 (broadcastInDim S1x20000 ![1] bcast_S20000_S1x20000_1 : Arr F S20000 .f32 → Arr F S1x20000 .f32),
    unary main_v126 main_v127 (broadcastInDim S8x20000 ![0, 1] bcast_S1x20000_S8x20000_0_1 : Arr F S1x20000 .f32 → Arr F S8x20000 .f32),
    binary main_v123 main_v127 main_v128 (subf : Arr F S8x20000 .f32 → Arr F S8x20000 .f32 → Arr F S8x20000 .f32),
    unary main_v111 main_v129 (broadcastInDim S1x20000 ![1] bcast_S20000_S1x20000_1 : Arr F S20000 .f32 → Arr F S1x20000 .f32),
    unary main_v129 main_v130 (broadcastInDim S8x20000 ![0, 1] bcast_S1x20000_S8x20000_0_1 : Arr F S1x20000 .f32 → Arr F S8x20000 .f32),
    binary main_v128 main_v130 main_v131 (Host.divf : Arr F S8x20000 .f32 → Arr F S8x20000 .f32 → Arr F S8x20000 .f32),
    unary main_v101 main_v132 ((extractStridedSlice S8x20000x1 ![0, 0, 2] · slices_S8x20000x4_S8x20000x1_0_0_2) : Arr F S8x20000x4 .f32 → Arr F S8x20000x1 .f32),
    reshape main_v132 main_v133 (rfl : (.f32 : EltTy) = .f32) shapeCasts_S8x20000x1_S8x20000,
    unary main_arg1 main_v134 ((extractStridedSlice S20000x1 ![0, 2] · slices_S20000x4_S20000x1_0_2) : Arr F S20000x4 .f32 → Arr F S20000x1 .f32),
    reshape main_v134 main_v135 (rfl : (.f32 : EltTy) = .f32) shapeCasts_S20000x1_S20000,
    unary main_v135 main_v136 (broadcastInDim S1x20000 ![1] bcast_S20000_S1x20000_1 : Arr F S20000 .f32 → Arr F S1x20000 .f32),
    unary main_v136 main_v137 (broadcastInDim S8x20000 ![0, 1] bcast_S1x20000_S8x20000_0_1 : Arr F S1x20000 .f32 → Arr F S8x20000 .f32),
    binary main_v133 main_v137 main_v138 (subf : Arr F S8x20000 .f32 → Arr F S8x20000 .f32 → Arr F S8x20000 .f32),
    unary main_v106 main_v139 (broadcastInDim S1x20000 ![1] bcast_S20000_S1x20000_1 : Arr F S20000 .f32 → Arr F S1x20000 .f32),
    unary main_v139 main_v140 (broadcastInDim S8x20000 ![0, 1] bcast_S1x20000_S8x20000_0_1 : Arr F S1x20000 .f32 → Arr F S8x20000 .f32),
    binary main_v138 main_v140 main_v141 (Host.divf : Arr F S8x20000 .f32 → Arr F S8x20000 .f32 → Arr F S8x20000 .f32),
    unary main_v101 main_v142 ((extractStridedSlice S8x20000x1 ![0, 0, 3] · slices_S8x20000x4_S8x20000x1_0_0_3) : Arr F S8x20000x4 .f32 → Arr F S8x20000x1 .f32),
    reshape main_v142 main_v143 (rfl : (.f32 : EltTy) = .f32) shapeCasts_S8x20000x1_S8x20000,
    unary main_arg1 main_v144 ((extractStridedSlice S20000x1 ![0, 3] · slices_S20000x4_S20000x1_0_3) : Arr F S20000x4 .f32 → Arr F S20000x1 .f32),
    reshape main_v144 main_v145 (rfl : (.f32 : EltTy) = .f32) shapeCasts_S20000x1_S20000,
    unary main_v145 main_v146 (broadcastInDim S1x20000 ![1] bcast_S20000_S1x20000_1 : Arr F S20000 .f32 → Arr F S1x20000 .f32),
    unary main_v146 main_v147 (broadcastInDim S8x20000 ![0, 1] bcast_S1x20000_S8x20000_0_1 : Arr F S1x20000 .f32 → Arr F S8x20000 .f32),
    binary main_v143 main_v147 main_v148 (subf : Arr F S8x20000 .f32 → Arr F S8x20000 .f32 → Arr F S8x20000 .f32),
    unary main_v111 main_v149 (broadcastInDim S1x20000 ![1] bcast_S20000_S1x20000_1 : Arr F S20000 .f32 → Arr F S1x20000 .f32),
    unary main_v149 main_v150 (broadcastInDim S8x20000 ![0, 1] bcast_S1x20000_S8x20000_0_1 : Arr F S1x20000 .f32 → Arr F S8x20000 .f32),
    binary main_v148 main_v150 main_v151 (Host.divf : Arr F S8x20000 .f32 → Arr F S8x20000 .f32 → Arr F S8x20000 .f32),
    unary main_v121 main_v152 (broadcastInDim S8x20000x1 ![0, 1] bcast_S8x20000_S8x20000x1_0_1 : Arr F S8x20000 .f32 → Arr F S8x20000x1 .f32),
    unary main_v131 main_v153 (broadcastInDim S8x20000x1 ![0, 1] bcast_S8x20000_S8x20000x1_0_1 : Arr F S8x20000 .f32 → Arr F S8x20000x1 .f32),
    unary main_v141 main_v154 (broadcastInDim S8x20000x1 ![0, 1] bcast_S8x20000_S8x20000x1_0_1 : Arr F S8x20000 .f32 → Arr F S8x20000x1 .f32),
    unary main_v151 main_v155 (broadcastInDim S8x20000x1 ![0, 1] bcast_S8x20000_S8x20000x1_0_1 : Arr F S8x20000 .f32 → Arr F S8x20000x1 .f32) ]

/-- The operations that compute the regression targets. -/
abbrev opsReg : List (HloOp τ sig (Elt F)) :=
  [ nary ![main_v152, main_v153, main_v154, main_v155] main_v156 (fun u => joinF (F := F) (u 0) (u 1) (u 2) (u 3)),
    nullary main_cst_6 (constant S_ .f32 0x00000000#32),
    unary main_cst_6 main_v157 (broadcastInDim S8x20000x4 ![] bcast_S_S8x20000x4 : Arr F S_ .f32 → Arr F S8x20000x4 .f32),
    binary main_v156 main_v157 main_v158 (subf : Arr F S8x20000x4 .f32 → Arr F S8x20000x4 .f32 → Arr F S8x20000x4 .f32),
    nullary main_cst_7 (constant S_ .f32 0x3E4CCCCD#32),
    unary main_cst_7 main_v159 (broadcastInDim S8x20000x4 ![] bcast_S_S8x20000x4 : Arr F S_ .f32 → Arr F S8x20000x4 .f32),
    binary main_v158 main_v159 main_v160 (Host.divf : Arr F S8x20000x4 .f32 → Arr F S8x20000x4 .f32 → Arr F S8x20000x4 .f32) ]

/-- The whole program's operations, in order. -/
abbrev ops : List (HloOp τ sig (Elt F)) :=
  opsLab ++ (opsArea ++ (opsOvX ++ (opsMinY ++ (opsInter ++ (opsIou ++ (opsBest ++ (opsLook ++ (opsCls ++ (opsBox ++ (opsSize ++ (opsDiff ++ (opsReg))))))))))))

set_option maxHeartbeats 4000000 in
/-- Part 0 of the program runs its stretches in order. -/
theorem part0_eq (c : Dev nD) : main_part0 (F := F) c = seq (opsLab ++ (opsArea ++ (opsOvX ++ (opsMinY)))) := rfl

set_option maxHeartbeats 4000000 in
/-- Part 1 of the program runs its stretches in order. -/
theorem part1_eq (c : Dev nD) : main_part1 (F := F) c = seq (opsInter ++ (opsIou ++ (opsBest ++ (opsLook ++ (opsCls ++ (opsBox ++ (opsSize))))))) := rfl

set_option maxHeartbeats 4000000 in
/-- Part 2 of the program runs its stretches in order. -/
theorem part2_eq (c : Dev nD) : main_part2 (F := F) c = seq (opsDiff ++ (opsReg)) := rfl

/-- The program runs its operations in order. -/
theorem main_eq (c : Dev nD) : main (F := F) c = seq ops := by
  have h : (ops : List (HloOp τ sig (Elt F))) = (opsLab ++ (opsArea ++ (opsOvX ++ (opsMinY)))) ++ ((opsInter ++ (opsIou ++ (opsBest ++ (opsLook ++ (opsCls ++ (opsBox ++ (opsSize))))))) ++ (opsDiff ++ (opsReg))) := by
    simp only [ops, List.append_assoc]
  rw [h, seq_append (opsLab ++ (opsArea ++ (opsOvX ++ (opsMinY)))) ((opsInter ++ (opsIou ++ (opsBest ++ (opsLook ++ (opsCls ++ (opsBox ++ (opsSize))))))) ++ (opsDiff ++ (opsReg))), seq_append (opsInter ++ (opsIou ++ (opsBest ++ (opsLook ++ (opsCls ++ (opsBox ++ (opsSize))))))) (opsDiff ++ (opsReg)), ← part0_eq c, ← part1_eq c, ← part2_eq c]
  rfl

/-- No buffer of the program is scoped. -/
theorem scopedRefs_eq : (Finset.univ.filter fun b : Ref sig .tc => b.isScoped) = ∅ := by decide

/-- No counter of the program is scoped. -/
theorem scopedSems_eq : (Finset.univ.filter fun sm : SemLoc sig => sm.isScoped .tc) = ∅ := by decide

/-- The stretch `opsLab` touches the program's own buffers only. -/
theorem subLab : (opsLab : List (HloOp τ sig (Elt F))).Forall fun op => op.bufs ⊆ tcRefs τ sig :=
  ⟨unary_bufs_sub .., unary_bufs_sub .., reshape_bufs_sub .., unary_bufs_sub .., nullary_bufs_sub .., nullary_bufs_sub .., unary_bufs_sub .., unary_bufs_sub .., binary_bufs_sub .., unary_bufs_sub .., unary_bufs_sub .., binary_bufs_sub ..⟩

/-- The stretch `opsLab` makes no buffer. -/
theorem freshLab : (opsLab : List (HloOp τ sig (Elt F))).Forall fun op => op.fresh = ∅ :=
  ⟨rfl, rfl, rfl, rfl, rfl, rfl, rfl, rfl, rfl, rfl, rfl, rfl⟩

/-- The buffers that the stretch `opsLab` writes. -/
abbrev WLab : List (Ref sig .tc) := [main_v0, main_v1, main_v2, main_v3, main_c, main_c_0, main_call0_v0, main_call0_v1, main_call0_v2, main_call0_v3, main_call0_v4, main_v4]

/-- The stretch `opsLab` writes no other buffer. -/
theorem writesLab : (opsLab : List (HloOp τ sig (Elt F))).Forall fun op => op.writes ⊆ (WLab.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsLab` does not write keeps its contents. -/
theorem keepLab (V : Valuation τ sig (Elt F)) (r : Ref sig .tc) (h : r ∉ WLab) :
    after opsLab V (Proc.devRef .tc r) = V (Proc.devRef .tc r) :=
  after_of_writes_sub opsLab V writesLab h

/-- The stretch `opsArea` touches the program's own buffers only. -/
theorem subArea : (opsArea : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub ..⟩

/-- The stretch `opsArea` makes no buffer. -/
theorem freshArea : (opsArea : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The buffers that the stretch `opsArea` writes. -/
abbrev WArea : List (Ref sig .tc) := [main_v5, main_v6, main_v7, main_v8, main_v9, main_v10, main_v11, main_v12, main_v13, main_v14, main_v15, main_v16, main_v17, main_v18, main_v19, main_v20, main_v21, main_v22, main_v23, main_v24, main_v25, main_v26]

/-- The stretch `opsArea` writes no other buffer. -/
theorem writesArea : (opsArea : List (HloOp τ sig (Elt F))).Forall fun op => op.writes ⊆ (WArea.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsArea` does not write keeps its contents. -/
theorem keepArea (V : Valuation τ sig (Elt F)) (r : Ref sig .tc) (h : r ∉ WArea) :
    after opsArea V (Proc.devRef .tc r) = V (Proc.devRef .tc r) :=
  after_of_writes_sub opsArea V writesArea h

/-- The stretch `opsOvX` touches the program's own buffers only. -/
theorem subOvX : (opsOvX : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., unary_bufs_sub .., binary_bufs_sub .., unary_bufs_sub .., reshape_bufs_sub .., unary_bufs_sub .., unary_bufs_sub .., reshape_bufs_sub .., unary_bufs_sub .., unary_bufs_sub .., unary_bufs_sub .., unary_bufs_sub .., binary_bufs_sub .., binary_bufs_sub ..⟩

/-- The stretch `opsOvX` makes no buffer. -/
theorem freshOvX : (opsOvX : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The buffers that the stretch `opsOvX` writes. -/
abbrev WOvX : List (Ref sig .tc) := [main_v27, main_v28, main_v29, main_v30, main_v31, main_v32, main_v33, main_v34, main_v35, main_v36, main_v37, main_v38, main_v39, main_v40, main_v41, main_v42, main_v43, main_v44, main_v45, main_v46, main_v47]

/-- The stretch `opsOvX` writes no other buffer. -/
theorem writesOvX : (opsOvX : List (HloOp τ sig (Elt F))).Forall fun op => op.writes ⊆ (WOvX.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsOvX` does not write keeps its contents. -/
theorem keepOvX (V : Valuation τ sig (Elt F)) (r : Ref sig .tc) (h : r ∉ WOvX) :
    after opsOvX V (Proc.devRef .tc r) = V (Proc.devRef .tc r) :=
  after_of_writes_sub opsOvX V writesOvX h

/-- The stretch `opsMinY` touches the program's own buffers only. -/
theorem subMinY : (opsMinY : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., unary_bufs_sub .., binary_bufs_sub ..⟩

/-- The stretch `opsMinY` makes no buffer. -/
theorem freshMinY : (opsMinY : List (HloOp τ sig (Elt F))).Forall fun op => op.fresh = ∅ :=
  ⟨rfl, rfl, rfl, rfl, rfl, rfl, rfl, rfl, rfl, rfl⟩

/-- The buffers that the stretch `opsMinY` writes. -/
abbrev WMinY : List (Ref sig .tc) := [main_v48, main_v49, main_v50, main_v51, main_v52, main_v53, main_v54, main_v55, main_v56, main_v57]

/-- The stretch `opsMinY` writes no other buffer. -/
theorem writesMinY : (opsMinY : List (HloOp τ sig (Elt F))).Forall fun op => op.writes ⊆ (WMinY.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsMinY` does not write keeps its contents. -/
theorem keepMinY (V : Valuation τ sig (Elt F)) (r : Ref sig .tc) (h : r ∉ WMinY) :
    after opsMinY V (Proc.devRef .tc r) = V (Proc.devRef .tc r) :=
  after_of_writes_sub opsMinY V writesMinY h

/-- The stretch `opsInter` touches the program's own buffers only. -/
theorem subInter : (opsInter : List (HloOp τ sig (Elt F))).Forall fun op => op.bufs ⊆ tcRefs τ sig :=
  ⟨unary_bufs_sub .., reshape_bufs_sub .., unary_bufs_sub .., unary_bufs_sub .., reshape_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., binary_bufs_sub ..⟩

/-- The stretch `opsInter` makes no buffer. -/
theorem freshInter : (opsInter : List (HloOp τ sig (Elt F))).Forall fun op => op.fresh = ∅ :=
  ⟨rfl, rfl, rfl, rfl, rfl, rfl, rfl, rfl, rfl, rfl, rfl, rfl, rfl, rfl, rfl, rfl, rfl, rfl⟩

/-- The buffers that the stretch `opsInter` writes. -/
abbrev WInter : List (Ref sig .tc) := [main_v58, main_v59, main_v60, main_v61, main_v62, main_v63, main_v64, main_v65, main_v66, main_v67, main_v68, main_cst, main_v69, main_v70, main_cst_1, main_v71, main_v72, main_v73]

/-- The stretch `opsInter` writes no other buffer. -/
theorem writesInter : (opsInter : List (HloOp τ sig (Elt F))).Forall fun op => op.writes ⊆ (WInter.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsInter` does not write keeps its contents. -/
theorem keepInter (V : Valuation τ sig (Elt F)) (r : Ref sig .tc) (h : r ∉ WInter) :
    after opsInter V (Proc.devRef .tc r) = V (Proc.devRef .tc r) :=
  after_of_writes_sub opsInter V writesInter h

/-- The stretch `opsIou` touches the program's own buffers only. -/
theorem subIou : (opsIou : List (HloOp τ sig (Elt F))).Forall fun op => op.bufs ⊆ tcRefs τ sig :=
  ⟨unary_bufs_sub .., unary_bufs_sub .., unary_bufs_sub .., unary_bufs_sub .., unary_bufs_sub .., binary_bufs_sub .., binary_bufs_sub .., nullary_bufs_sub .., unary_bufs_sub .., binary_bufs_sub .., binary_bufs_sub ..⟩

/-- The stretch `opsIou` makes no buffer. -/
theorem freshIou : (opsIou : List (HloOp τ sig (Elt F))).Forall fun op => op.fresh = ∅ :=
  ⟨rfl, rfl, rfl, rfl, rfl, rfl, rfl, rfl, rfl, rfl, rfl⟩

/-- The buffers that the stretch `opsIou` writes. -/
abbrev WIou : List (Ref sig .tc) := [main_v74, main_v75, main_v76, main_v77, main_v78, main_v79, main_v80, main_cst_2, main_v81, main_v82, main_v83]

/-- The stretch `opsIou` writes no other buffer. -/
theorem writesIou : (opsIou : List (HloOp τ sig (Elt F))).Forall fun op => op.writes ⊆ (WIou.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsIou` does not write keeps its contents. -/
theorem keepIou (V : Valuation τ sig (Elt F)) (r : Ref sig .tc) (h : r ∉ WIou) :
    after opsIou V (Proc.devRef .tc r) = V (Proc.devRef .tc r) :=
  after_of_writes_sub opsIou V writesIou h

/-- The stretch `opsBest` touches the program's own buffers only. -/
theorem subBest : (opsBest : List (HloOp τ sig (Elt F))).Forall fun op => op.bufs ⊆ tcRefs τ sig :=
  ⟨nullary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub ..⟩

/-- The stretch `opsBest` makes no buffer. -/
theorem freshBest : (opsBest : List (HloOp τ sig (Elt F))).Forall fun op => op.fresh = ∅ :=
  ⟨rfl, rfl, rfl, rfl, rfl, rfl, rfl, rfl, rfl, rfl, rfl, rfl, rfl, rfl, rfl, rfl, rfl, rfl⟩

/-- The buffers that the stretch `opsBest` writes. -/
abbrev WBest : List (Ref sig .tc) := [main_cst_3, main_v84, main_call1_v0, main_call1_cst, main_call1_c, main_call1_v1_0, main_v85, main_cst_4, main_v86, main_v87, main_cst_5, main_v88, main_v89, main_v90, main_v91, main_v92, main_v93, main_v94]

/-- The stretch `opsBest` writes no other buffer. -/
theorem writesBest : (opsBest : List (HloOp τ sig (Elt F))).Forall fun op => op.writes ⊆ (WBest.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsBest` does not write keeps its contents. -/
theorem keepBest (V : Valuation τ sig (Elt F)) (r : Ref sig .tc) (h : r ∉ WBest) :
    after opsBest V (Proc.devRef .tc r) = V (Proc.devRef .tc r) :=
  after_of_writes_sub opsBest V writesBest h

/-- The stretch `opsLook` touches the program's own buffers only. -/
theorem subLook : (opsLook : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- The stretch `opsLook` makes no buffer. -/
theorem freshLook : (opsLook : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The buffers that the stretch `opsLook` writes. -/
abbrev WLook : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v95]

/-- The stretch `opsLook` writes no other buffer. -/
theorem writesLook : (opsLook : List (HloOp τ sig (Elt F))).Forall fun op => op.writes ⊆ (WLook.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsLook` does not write keeps its contents. -/
theorem keepLook (V : Valuation τ sig (Elt F)) (r : Ref sig .tc) (h : r ∉ WLook) :
    after opsLook V (Proc.devRef .tc r) = V (Proc.devRef .tc r) :=
  after_of_writes_sub opsLook V writesLook h

/-- The stretch `opsCls` touches the program's own buffers only. -/
theorem subCls : (opsCls : List (HloOp τ sig (Elt F))).Forall fun op => op.bufs ⊆ tcRefs τ sig :=
  ⟨unary_bufs_sub .., nullary_bufs_sub .., unary_bufs_sub .., unary_bufs_sub .., unary_bufs_sub .., binary_bufs_sub .., unary_bufs_sub .., unary_bufs_sub .., unary_bufs_sub .., unary_bufs_sub .., binary_bufs_sub ..⟩

/-- The stretch `opsCls` makes no buffer. -/
theorem freshCls : (opsCls : List (HloOp τ sig (Elt F))).Forall fun op => op.fresh = ∅ :=
  ⟨rfl, rfl, rfl, rfl, rfl, rfl, rfl, rfl, rfl, rfl, rfl⟩

/-- The buffers that the stretch `opsCls` writes. -/
abbrev WCls : List (Ref sig .tc) := [main_call3_v0, main_call3_v1, main_call3_v2, main_call3_v3, main_call3_v4, main_call3_v5, main_v96, main_v97, main_v98, main_v99, main_v100]

/-- The stretch `opsCls` writes no other buffer. -/
theorem writesCls : (opsCls : List (HloOp τ sig (Elt F))).Forall fun op => op.writes ⊆ (WCls.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsCls` does not write keeps its contents. -/
theorem keepCls (V : Valuation τ sig (Elt F)) (r : Ref sig .tc) (h : r ∉ WCls) :
    after opsCls V (Proc.devRef .tc r) = V (Proc.devRef .tc r) :=
  after_of_writes_sub opsCls V writesCls h

/-- The stretch `opsBox` touches the program's own buffers only. -/
theorem subBox : (opsBox : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩

/-- The stretch `opsBox` makes no buffer. -/
theorem freshBox : (opsBox : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- The buffers that the stretch `opsBox` writes. -/
abbrev WBox : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v101]

/-- The stretch `opsBox` writes no other buffer. -/
theorem writesBox : (opsBox : List (HloOp τ sig (Elt F))).Forall fun op => op.writes ⊆ (WBox.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsBox` does not write keeps its contents. -/
theorem keepBox (V : Valuation τ sig (Elt F)) (r : Ref sig .tc) (h : r ∉ WBox) :
    after opsBox V (Proc.devRef .tc r) = V (Proc.devRef .tc r) :=
  after_of_writes_sub opsBox V writesBox h

/-- The stretch `opsSize` touches the program's own buffers only. -/
theorem subSize : (opsSize : List (HloOp τ sig (Elt F))).Forall fun op => op.bufs ⊆ tcRefs τ sig :=
  ⟨unary_bufs_sub .., reshape_bufs_sub .., unary_bufs_sub .., reshape_bufs_sub .., binary_bufs_sub .., unary_bufs_sub .., reshape_bufs_sub .., unary_bufs_sub .., reshape_bufs_sub .., binary_bufs_sub ..⟩

/-- The stretch `opsSize` makes no buffer. -/
theorem freshSize : (opsSize : List (HloOp τ sig (Elt F))).Forall fun op => op.fresh = ∅ :=
  ⟨rfl, rfl, rfl, rfl, rfl, rfl, rfl, rfl, rfl, rfl⟩

/-- The buffers that the stretch `opsSize` writes. -/
abbrev WSize : List (Ref sig .tc) := [main_v102, main_v103, main_v104, main_v105, main_v106, main_v107, main_v108, main_v109, main_v110, main_v111]

/-- The stretch `opsSize` writes no other buffer. -/
theorem writesSize : (opsSize : List (HloOp τ sig (Elt F))).Forall fun op => op.writes ⊆ (WSize.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsSize` does not write keeps its contents. -/
theorem keepSize (V : Valuation τ sig (Elt F)) (r : Ref sig .tc) (h : r ∉ WSize) :
    after opsSize V (Proc.devRef .tc r) = V (Proc.devRef .tc r) :=
  after_of_writes_sub opsSize V writesSize h

/-- The stretch `opsDiff` touches the program's own buffers only. -/
theorem subDiff : (opsDiff : List (HloOp τ sig (Elt F))).Forall fun op => op.bufs ⊆ tcRefs τ sig :=
  ⟨unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., unary_bufs_sub .., unary_bufs_sub .., unary_bufs_sub ..⟩

/-- The stretch `opsDiff` makes no buffer. -/
theorem freshDiff : (opsDiff : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers that the stretch `opsDiff` writes. -/
abbrev WDiff : List (Ref sig .tc) := [main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155]

/-- The stretch `opsDiff` writes no other buffer. -/
theorem writesDiff : (opsDiff : List (HloOp τ sig (Elt F))).Forall fun op => op.writes ⊆ (WDiff.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsDiff` does not write keeps its contents. -/
theorem keepDiff (V : Valuation τ sig (Elt F)) (r : Ref sig .tc) (h : r ∉ WDiff) :
    after opsDiff V (Proc.devRef .tc r) = V (Proc.devRef .tc r) :=
  after_of_writes_sub opsDiff V writesDiff h

/-- The stretch `opsReg` touches the program's own buffers only. -/
theorem subReg : (opsReg : List (HloOp τ sig (Elt F))).Forall fun op => op.bufs ⊆ tcRefs τ sig :=
  ⟨nary_bufs_sub .., nullary_bufs_sub .., unary_bufs_sub .., binary_bufs_sub .., nullary_bufs_sub .., unary_bufs_sub .., binary_bufs_sub ..⟩

/-- The stretch `opsReg` makes no buffer. -/
theorem freshReg : (opsReg : List (HloOp τ sig (Elt F))).Forall fun op => op.fresh = ∅ :=
  ⟨rfl, rfl, rfl, rfl, rfl, rfl, rfl⟩

/-- The buffers that the stretch `opsReg` writes. -/
abbrev WReg : List (Ref sig .tc) := [main_v156, main_cst_6, main_v157, main_v158, main_cst_7, main_v159, main_v160]

/-- The stretch `opsReg` writes no other buffer. -/
theorem writesReg : (opsReg : List (HloOp τ sig (Elt F))).Forall fun op => op.writes ⊆ (WReg.map (Proc.devRef (τ := τ) .tc)).toFinset := by
  simp only [List.Forall]
  repeat' apply And.intro
  all_goals
    simp only [nullary_writes, unary_writes, binary_writes, ternary_writes, quaternary_writes, reshape_writes, nary_writes, Finset.singleton_subset_iff, List.mem_toFinset]
    exact List.mem_map_of_mem (by decide)

/-- A buffer the stretch `opsReg` does not write keeps its contents. -/
theorem keepReg (V : Valuation τ sig (Elt F)) (r : Ref sig .tc) (h : r ∉ WReg) :
    after opsReg V (Proc.devRef .tc r) = V (Proc.devRef .tc r) :=
  after_of_writes_sub opsReg V writesReg h

/-- Every operation touches the program's own buffers only. -/
theorem ops_sub : (ops : List (HloOp τ sig (Elt F))).Forall fun op => op.bufs ⊆ tcRefs τ sig :=
  List.forall_iff_forall_mem.mpr fun op h => by
    simp only [ops, List.mem_append] at h
    rcases h with h | h | h | h | h | h | h | h | h | h | h | h | h
    exacts [List.forall_iff_forall_mem.mp subLab op h, List.forall_iff_forall_mem.mp subArea op h, List.forall_iff_forall_mem.mp subOvX op h, List.forall_iff_forall_mem.mp subMinY op h, List.forall_iff_forall_mem.mp subInter op h, List.forall_iff_forall_mem.mp subIou op h, List.forall_iff_forall_mem.mp subBest op h, List.forall_iff_forall_mem.mp subLook op h, List.forall_iff_forall_mem.mp subCls op h, List.forall_iff_forall_mem.mp subBox op h, List.forall_iff_forall_mem.mp subSize op h, List.forall_iff_forall_mem.mp subDiff op h, List.forall_iff_forall_mem.mp subReg op h]

/-- No operation makes a buffer. -/
theorem ops_fresh : ∀ op ∈ (ops : List (HloOp τ sig (Elt F))), op.fresh = ∅ := fun op h => by
    simp only [ops, List.mem_append] at h
    rcases h with h | h | h | h | h | h | h | h | h | h | h | h | h
    exacts [List.forall_iff_forall_mem.mp freshLab op h, List.forall_iff_forall_mem.mp freshArea op h, List.forall_iff_forall_mem.mp freshOvX op h, List.forall_iff_forall_mem.mp freshMinY op h, List.forall_iff_forall_mem.mp freshInter op h, List.forall_iff_forall_mem.mp freshIou op h, List.forall_iff_forall_mem.mp freshBest op h, List.forall_iff_forall_mem.mp freshLook op h, List.forall_iff_forall_mem.mp freshCls op h, List.forall_iff_forall_mem.mp freshBox op h, List.forall_iff_forall_mem.mp freshSize op h, List.forall_iff_forall_mem.mp freshDiff op h, List.forall_iff_forall_mem.mp freshReg op h]

/-- The program terminates with every buffer at what the operations leave there and every counter at zero. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ fun _ => ops_fresh

/-- The first argument is written by no operation. -/
theorem keep_arg0 (V : Valuation τ sig (Elt F)) : after ops V (Proc.devRef .tc main_arg0) = V (Proc.devRef .tc main_arg0) := by
  simp only [ops, after_append]
  rw [keepReg _ _ (by decide), keepDiff _ _ (by decide), keepSize _ _ (by decide), keepBox _ _ (by decide), keepCls _ _ (by decide), keepLook _ _ (by decide), keepBest _ _ (by decide), keepIou _ _ (by decide), keepInter _ _ (by decide), keepMinY _ _ (by decide), keepOvX _ _ (by decide), keepArea _ _ (by decide), keepLab _ _ (by decide)]

/-- The second argument is written by no operation. -/
theorem keep_arg1 (V : Valuation τ sig (Elt F)) : after ops V (Proc.devRef .tc main_arg1) = V (Proc.devRef .tc main_arg1) := by
  simp only [ops, after_append]
  rw [keepReg _ _ (by decide), keepDiff _ _ (by decide), keepSize _ _ (by decide), keepBox _ _ (by decide), keepCls _ _ (by decide), keepLook _ _ (by decide), keepBest _ _ (by decide), keepIou _ _ (by decide), keepInter _ _ (by decide), keepMinY _ _ (by decide), keepOvX _ _ (by decide), keepArea _ _ (by decide), keepLab _ _ (by decide)]

/-- The program terminates, the arguments stay, every counter ends at zero. -/
theorem quiescent (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_arg0).trans (keep_arg0 _), (h c main_arg1).trans (keep_arg1 _)⟩,
    sem_eq_zero_of_no_sems (by rfl) r.2⟩) (run m ρ)

end Cert.ReferenceIdeal.Hand

end
-- ==== Proof.Spec.lean ====
/-
  The matching of one anchor against the boxes, as extended-real arithmetic: the overlap ratio with and without the
  guard on the union, the first box of largest ratio, the label, the state and the scaled differences.
-/
module

public import Idealize.ShloMosaic.PureOps.Ideal
public import Idealize.ShloMosaic.PureOps.Ideal.Laws

@[expose] public section

noncomputable section

namespace Cert.Match

open Idealize.ShloMosaic

/-- The word 0.5. -/
abbrev half : EReal := Ideal.ofBits .f32 0x3F000000#32

/-- The word nearest 0.4. -/
abbrev fourTenths : EReal := Ideal.ofBits .f32 0x3ECCCCCD#32

/-- The word nearest 1e-8, the guard on the union. -/
abbrev guardWord : EReal := Ideal.ofBits .f32 0x322BCC77#32

/-- A rectangle's area from its corners `(x1, y1, x2, y2)`. -/
def area (a : Fin 4 → EReal) : EReal := (a 2 - a 0) * (a 3 - a 1)

/-- The area of the intersection of an anchor and a box. -/
def inter (a b : Fin 4 → EReal) : EReal :=
  max (min (a 2) (b 2) - max (a 0) (b 0)) 0 * max (min (a 3) (b 3) - max (a 1) (b 1)) 0

/-- The area of the union, as both programs compute it. -/
def uni (a b : Fin 4 → EReal) : EReal := area a + area b - inter a b

/-- The overlap ratio, the union as it is. -/
def iou (a b : Fin 4 → EReal) : EReal := Ideal.div (inter a b) (uni a b)

/-- The overlap ratio, the union kept at least the guard. -/
def iouG (a b : Fin 4 → EReal) : EReal := Ideal.div (inter a b) (max (uni a b) guardWord)

/-- `i` is the first index at which `f` is largest. -/
def IsFirst {n : ℕ} (f : Fin n → EReal) (i : Fin n) : Prop := (∀ k, f k ≤ f i) ∧ ∀ k, k < i → f k < f i

/-- A nonempty finite family has a first largest index. -/
theorem exists_isFirst {n : ℕ} (f : Fin (n + 1) → EReal) : ∃ i, IsFirst f i := by
  obtain ⟨i, -, hi⟩ := Finset.exists_max_image Finset.univ f Finset.univ_nonempty
  obtain ⟨m, hm, hl⟩ := (Finset.univ.filter fun k => f k = f i).exists_min_image id ⟨i, by simp⟩
  have hfm : f m = f i := by simpa using hm
  refine ⟨m, fun k => hfm ▸ hi k (Finset.mem_univ k), fun k hk => ?_⟩
  refine lt_of_le_of_ne (hfm ▸ hi k (Finset.mem_univ k)) fun h => ?_
  exact absurd hk (not_lt.mpr (hl k (by simp [h, hfm])))

/-- The largest value of a family is the value at its first largest index. -/
theorem fold_max_of_isFirst {n : ℕ} {f : Fin n → EReal} {i : Fin n} (h : IsFirst f i) :
    (Finset.univ : Finset (Fin n)).fold max ⊥ f = f i := by
  apply le_antisymm
  · rw [Finset.fold_max_le]; exact ⟨bot_le, fun k _ => h.1 k⟩
  · rw [Finset.le_fold_max]; exact Or.inr ⟨i, Finset.mem_univ i, le_rfl⟩

/-- 1 for an overlap of at least one half, else 0. -/
def pos (v : EReal) : EReal := if half ≤ v then 1 else 0

/-- The state of an anchor whose best overlap is `v`: 1 for a match, -1 to be ignored, 0 for background. -/
def state (v : EReal) : EReal := if half ≤ v then 1 else if fourTenths < v then -1 else 0

/-- A label word as an integer, cut to 0‥79. -/
def label (x : EReal) : BitVec 32 := Ideal.fptosi 32 (min (Ideal.ofBits .f32 0x429E0000#32) (max 0 x))

/-- The extent an anchor's corner `k` is measured against: the width for x, the height for y. -/
def extent (a : Fin 4 → EReal) : Fin 4 → EReal := ![a 2 - a 0, a 3 - a 1, a 2 - a 0, a 3 - a 1]

/-- The scaled difference by reciprocals: times the reciprocal of the extent, times the reciprocal of 0.2's word. -/
def scaledR (g a w : EReal) : EReal := (g - a) * Ideal.div 1 w * ((67108864 / 13421773 : ℝ) : EReal)

/-- The scaled difference of a box's corner and an anchor's, over the anchor's extent `w`. -/
def scaled (g a w : EReal) : EReal := Ideal.div (Ideal.div (g - a) w) (Ideal.ofBits .f32 0x3E4CCCCD#32)

/-- A comparison's bit, widened and converted, is 1 or 0. -/
theorem sitofp_bit (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h]

/-- A comparison's bit converted unsigned is 1 or 0. -/
theorem uitofp_bit (p : Prop) [Decidable p] :
    FloatOps.uitofp (F := Ideal) .f32 (BitVec.ofBool (decide p)) = if p then (1 : EReal) else 0 := by
  show (((BitVec.ofBool (decide p)).toNat : ℝ) : EReal) = _
  by_cases h : p <;> simp [h]

/-- The state's two bits, subtracted. -/
theorem state_eq (v : EReal) : pos v - (if fourTenths < v ∧ ¬ half ≤ v then (1 : EReal) else 0) = state v := by
  unfold pos state
  by_cases h : half ≤ v
  · simp [h]
  · by_cases h' : fourTenths < v <;> simp [h, h']

/-- The signed minimum of words is the minimum of the integers they stand for. -/
theorem toInt_minsi (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

/-- The least row number among the rows of largest value, the other rows counting `n`, is the first one's. -/
theorem fold_minsi_of_isFirst {f : Fin 104 → EReal} {i : Fin 104} (h : IsFirst f i) :
    (Finset.univ : Finset (Fin 104)).fold IntOp.minsi 2147483647#32
      (fun r => if f r = f i then BitVec.ofNat 32 r.val else 104#32) = BitVec.ofNat 32 i.val := by
  have hr : ∀ r : Fin 104, (BitVec.ofNat 32 r.val).toInt = (r.val : ℤ) := by decide
  apply BitVec.eq_of_toInt_eq
  rw [← Finset.fold_hom (op' := min) (m := BitVec.toInt) toInt_minsi, hr]
  apply le_antisymm
  · rw [Finset.fold_min_le]
    exact Or.inr ⟨i, Finset.mem_univ i, by rw [if_pos rfl, hr]⟩
  · rw [Finset.le_fold_min]
    have hi := i.isLt
    refine ⟨by simp; omega, fun r _ => ?_⟩
    by_cases e : f r = f i
    · rw [if_pos e, hr]
      have : ¬ r < i := fun hlt => absurd e (ne_of_lt (h.2 r hlt))
      simp only [Fin.lt_def] at this
      omega
    · rw [if_neg e, show (104#32).toInt = 104 from by decide]; omega

/-- A sum whose terms are taken at one index only is that index's term. -/
theorem sum_pick {n : ℕ} (g : Fin n → EReal) (i : Fin n) :
    ∑ r, g r * (if r = i then (1 : EReal) else 0) = g i := by
  rw [Finset.sum_eq_single i]
  · simp
  · intro b _ hb; simp [hb]
  · intro h; exact absurd (Finset.mem_univ i) h

end Cert.Match

end
-- ==== Proof.KerVal.lean ====
/-
  The kernel body's outputs over the extended reals, one column at a time: for the first row of largest overlap ratio,
  the states, the class targets and the regression targets are what the match of that row gives.
-/
module

public import proofs.«01_k».proof.Proof.IdealBody
public import proofs.«01_k».proof.Proof.Spec
public import Idealize.ShloMosaic.Lib.Pointwise

@[expose] public section

set_option maxRecDepth 16384

noncomputable section

namespace Cert.KernelIdeal.Hand

open Cert.KernelIdeal Cert.KernelIdeal.Gen Cert.Match
open Idealize.ShloMosaic

/-- Row `r` of the boxes' block, its four corners. -/
def rowOf (x0 : Vec Ideal S1x104x8 .f32) (r : Fin 104) : Fin 4 → EReal :=
  ![x0 (ix3 0 r 0), x0 (ix3 0 r 1), x0 (ix3 0 r 2), x0 (ix3 0 r 3)]

/-- Column `j` of the anchors' block, its four corners. -/
def colOf (x2 : Vec Ideal S4x4096 .f32) (j : Fin 4096) : Fin 4 → EReal :=
  ![x2 (ix2 0 j), x2 (ix2 1 j), x2 (ix2 2 j), x2 (ix2 3 j)]

/-- The overlap ratio of every row and column. -/
theorem pay7_apply (x0 : Vec Ideal S1x104x8 .f32) (x2 : Vec Ideal S4x4096 .f32) (r : Fin 104) (j : Fin 4096) :
    k0_pay7 (F := Ideal) x0 x2 (ix2 r j) = iou (colOf x2 j) (rowOf x0 r) := by
  pointwise [k0_pay7, k0_pay2, k0_pay3, k0_pay4, k0_pay5, k0_pay6]
  rfl

/-- Each column's largest ratio. -/
theorem pay8_apply {x0 : Vec Ideal S1x104x8 .f32} {x2 : Vec Ideal S4x4096 .f32} {j : Fin 4096} {r0 : Fin 104}
    (h : IsFirst (fun r => iou (colOf x2 j) (rowOf x0 r)) r0) :
    k0_pay8 (F := Ideal) x0 x2 (ix2 0 j) = iou (colOf x2 j) (rowOf x0 r0) := by
  rw [← fold_max_of_isFirst h]
  pointwise [k0_pay8]
  simp only [pay7_apply]
  rw [show Ideal.ofBits FTy.f32 4286578688#32 = ⊥ from by simp [Ideal.ofBits, Ideal.ieee]]

/-- The row number where the ratio is the column's largest, else 104. -/
theorem pay9_apply {x0 : Vec Ideal S1x104x8 .f32} {x2 : Vec Ideal S4x4096 .f32} {j : Fin 4096} {r0 : Fin 104}
    (h : IsFirst (fun r => iou (colOf x2 j) (rowOf x0 r)) r0) (r : Fin 104) :
    k0_pay9 (F := Ideal) x0 x2 (ix2 r j)
      = if iou (colOf x2 j) (rowOf x0 r) = iou (colOf x2 j) (rowOf x0 r0) then BitVec.ofNat 32 r.val else 104#32 := by
  pointwise [k0_pay9]
  rw [pay7_apply, pay8_apply h]

/-- The one-hot column: 1 at the first row of largest ratio. -/
theorem pay10_apply {x0 : Vec Ideal S1x104x8 .f32} {x2 : Vec Ideal S4x4096 .f32} {j : Fin 4096} {r0 : Fin 104}
    (h : IsFirst (fun r => iou (colOf x2 j) (rowOf x0 r)) r0) (r : Fin 104) :
    k0_pay10 (F := Ideal) rowIota (k0_pay9 x0 x2) (ix2 r j) = if r = r0 then (1 : EReal) else 0 := by
  pointwise [k0_pay10]
  simp only [pay9_apply h]
  rw [fold_minsi_of_isFirst (f := fun r => iou (colOf x2 j) (rowOf x0 r)) h]
  have e : IntOp.cmpi CmpIPredicate.eq (BitVec.ofNat 32 r.val) (BitVec.ofNat 32 r0.val) = BitVec.ofBool (decide (r = r0)) := by
    clear h; revert r r0; decide +kernel
  rw [e, sitofp_bit]

/-- The states of a column. -/
theorem outS_apply {x0 : Vec Ideal S1x104x8 .f32} {x2 : Vec Ideal S4x4096 .f32} {j : Fin 4096} {r0 : Fin 104}
    (h : IsFirst (fun r => iou (colOf x2 j) (rowOf x0 r)) r0) :
    outS x0 x2 (ix3 0 0 j) = state (iou (colOf x2 j) (rowOf x0 r0)) := by
  pointwise [outS, k0_pay13, k0_pay12, k0_pay11]
  rw [pay8_apply h, sitofp_bit, ← state_eq]
  generalize iou (colOf x2 j) (rowOf x0 r0) = v
  congr 1
  rw [← sitofp_bit]
  congr 2
  by_cases h1 : fourTenths < v <;> by_cases h2 : half ≤ v <;> simp [h1, h2] <;> rfl

/-- The class targets of a column. -/
theorem outC_apply {x0 : Vec Ideal S1x104x8 .f32} {x2 : Vec Ideal S4x4096 .f32} {j : Fin 4096} {r0 : Fin 104}
    (h : IsFirst (fun r => iou (colOf x2 j) (rowOf x0 r)) r0) (x1 : Vec Ideal S1x8x104 .f32) (k : Fin 80) :
    outC x0 x1 x2 (ix3 0 k j)
      = (if BitVec.ofNat 32 k.val = label (x1 (ix3 0 4 r0)) then (1 : EReal) else 0) * pos (iou (colOf x2 j) (rowOf x0 r0)) := by
  pointwise [outC, k0_pay15, k0_pay14, k0_pay12, k0_pay11]
  simp only [pay10_apply h, pay8_apply h]
  rw [sum_pick, sitofp_bit]
  congr 1
  rw [← sitofp_bit]
  congr 2

/-- The picked row of the transposed boxes' block. -/
theorem pay16_apply {x0 : Vec Ideal S1x104x8 .f32} {x2 : Vec Ideal S4x4096 .f32} {j : Fin 4096} {r0 : Fin 104}
    (h : IsFirst (fun r => iou (colOf x2 j) (rowOf x0 r)) r0) (x1 : Vec Ideal S1x8x104 .f32) (k : Fin 8) :
    k0_pay16 (F := Ideal) rowIota (k0_pay9 x0 x2) x1 (ix2 k j) = x1 (ix3 0 k r0) := by
  pointwise [k0_pay16, k0_pay14]
  simp only [pay10_apply h]
  exact sum_pick _ _

/-- The four scaled differences of a column, by corner. -/
theorem pay1_apply (v8 v9 v10 v11 : FVec Ideal S1x4096 .f32) (v88 : FVec Ideal S8x4096 .f32) (v89 : FVec Ideal S1x4096 .f32) (k : Fin 4) (j : Fin 4096) :
    k0_pay1 (F := Ideal) v8 v9 v10 v11 v88 v89 (ix3 0 k j)
      = scaledR (![v89 (ix2 0 j), v88 (ix2 1 j), v88 (ix2 2 j), v88 (ix2 3 j)] k)
          (![v8 (ix2 0 j), v9 (ix2 0 j), v10 (ix2 0 j), v11 (ix2 0 j)] k)
          (![v10 (ix2 0 j) - v8 (ix2 0 j), v11 (ix2 0 j) - v9 (ix2 0 j), v10 (ix2 0 j) - v8 (ix2 0 j), v11 (ix2 0 j) - v9 (ix2 0 j)] k) := by
  pointwise [k0_pay1]
  have hn : Named.named (F := Ideal) (φ := .f32) κ "inv_std" 1084227584#32 = ((67108864/13421773 : ℝ) : EReal) :=
    IdealRules.named_const.ideal_named_scalar _ _ _ _ rfl
  fin_cases k <;> exact congrArg (fun z : EReal => (_ : EReal) * z) hn

/-- The anchors' first row. -/
theorem pay3_apply (x2 : Vec Ideal S4x4096 .f32) (j : Fin 4096) : k0_pay3 (F := Ideal) x2 (ix2 0 j) = x2 (ix2 0 j) := by
  pointwise [k0_pay2, k0_pay3]
/-- The anchors' second row. -/
theorem pay4_apply (x2 : Vec Ideal S4x4096 .f32) (j : Fin 4096) : k0_pay4 (F := Ideal) x2 (ix2 0 j) = x2 (ix2 1 j) := by
  pointwise [k0_pay2, k0_pay4]
/-- The anchors' third row. -/
theorem pay5_apply (x2 : Vec Ideal S4x4096 .f32) (j : Fin 4096) : k0_pay5 (F := Ideal) x2 (ix2 0 j) = x2 (ix2 2 j) := by
  pointwise [k0_pay2, k0_pay5]
/-- The anchors' fourth row. -/
theorem pay6_apply (x2 : Vec Ideal S4x4096 .f32) (j : Fin 4096) : k0_pay6 (F := Ideal) x2 (ix2 0 j) = x2 (ix2 3 j) := by
  pointwise [k0_pay2, k0_pay6]
/-- The first picked row. -/
theorem pay17_apply (v w : IVec S104x4096 32) (x1 : Vec Ideal S1x8x104 .f32) (j : Fin 4096) : k0_pay17 (F := Ideal) v w x1 (ix2 0 j) = k0_pay16 (F := Ideal) v w x1 (ix2 0 j) := by
  pointwise [k0_pay17]
/-- The regression targets of a column. -/
theorem outR_apply {x0 : Vec Ideal S1x104x8 .f32} {x2 : Vec Ideal S4x4096 .f32} {j : Fin 4096} {r0 : Fin 104}
    (h : IsFirst (fun r => iou (colOf x2 j) (rowOf x0 r)) r0) (x1 : Vec Ideal S1x8x104 .f32) (k : Fin 4) :
    outR x0 x1 x2 (ix3 0 k j)
      = scaledR (x1 (ix3 0 (Fin.castLE (by decide) k) r0)) (colOf x2 j k) (extent (colOf x2 j) k) := by
  unfold outR
  rw [pay1_apply, pay3_apply, pay4_apply, pay5_apply, pay6_apply, pay17_apply]
  simp only [pay16_apply h]
  fin_cases k <;> rfl

end Cert.KernelIdeal.Hand

end
-- ==== Proof.IdealVal.lean ====
/-
  The launch over the extended reals, with its values: at every grid point the outputs' blocks, inside their arrays, are
  the match of each anchor of the block, so the three result arrays are the match of every anchor of every image.
-/
module

public import proofs.«01_k».proof.Proof.IdealRun
public import proofs.«01_k».proof.Proof.KerVal
public import Idealize.ShloMosaic.Lib.Pipeline.ValueKit

@[expose] public section

set_option maxRecDepth 16384

noncomputable section

namespace Cert.KernelIdeal.Hand

open Cert.KernelIdeal Cert.KernelIdeal.Gen Cert.Match
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose ΦA)

/-- The first place of the largest value. -/
def firstRow {n : ℕ} (f : Fin (n + 1) → EReal) : Fin (n + 1) := (exists_isFirst f).choose

/-- It is the first place of the largest value. -/
theorem firstRow_spec {n : ℕ} (f : Fin (n + 1) → EReal) : IsFirst f (firstRow f) := (exists_isFirst f).choose_spec

/-- The class target at class `k` of an anchor against a table of boxes and their labels. -/
def valC (bx : Fin 104 → Fin 4 → EReal) (lab : Fin 104 → EReal) (a : Fin 4 → EReal) (k : ℕ) : EReal :=
  (if BitVec.ofNat 32 k = label (lab (firstRow fun r => iou a (bx r))) then 1 else 0)
    * pos (iou a (bx (firstRow fun r => iou a (bx r))))

/-- The regression target at corner `k` of an anchor against a table of boxes. -/
def valR (bx cor : Fin 104 → Fin 4 → EReal) (a : Fin 4 → EReal) (k : Fin 4) : EReal :=
  scaledR (cor (firstRow fun r => iou a (bx r)) k) (a k) (extent a k)

/-- The state of an anchor against a table of boxes. -/
def valS (bx : Fin 104 → Fin 4 → EReal) (a : Fin 4 → EReal) : EReal :=
  state (iou a (bx (firstRow fun r => iou a (bx r))))

/-- Corners of the transposed table's block, box by box. -/
def corOf (x1 : Vec Ideal S1x8x104 .f32) (r : Fin 104) (k : Fin 4) : EReal := x1 (ix3 0 (Fin.castLE (by decide) k) r)

/-- The class targets' block, at an index. -/
theorem outC_eq (x0 : Vec Ideal S1x104x8 .f32) (x1 : Vec Ideal S1x8x104 .f32) (x2 : Vec Ideal S4x4096 .f32) (i : S1x80x4096.Idx) :
    outC x0 x1 x2 i = valC (rowOf x0) (fun r => x1 (ix3 0 4 r)) (colOf x2 (i 2)) (i 1).val := by
  obtain ⟨z, k, j, rfl⟩ : ∃ (z : Fin 1) (k : Fin 80) (j : Fin 4096), i = ix3 z k j := ⟨i 0, i 1, i 2, eq_ix3 i⟩
  obtain rfl : z = 0 := Subsingleton.elim _ _
  exact outC_apply (firstRow_spec _) x1 k

/-- The regression targets' block, at an index. -/
theorem outR_eq (x0 : Vec Ideal S1x104x8 .f32) (x1 : Vec Ideal S1x8x104 .f32) (x2 : Vec Ideal S4x4096 .f32) (i : S1x4x4096.Idx) :
    outR x0 x1 x2 i = valR (rowOf x0) (corOf x1) (colOf x2 (i 2)) (i 1) := by
  obtain ⟨z, k, j, rfl⟩ : ∃ (z : Fin 1) (k : Fin 4) (j : Fin 4096), i = ix3 z k j := ⟨i 0, i 1, i 2, eq_ix3 i⟩
  obtain rfl : z = 0 := Subsingleton.elim _ _
  exact outR_apply (firstRow_spec _) x1 k

/-- The states' block, at an index. -/
theorem outS_eq (x0 : Vec Ideal S1x104x8 .f32) (x2 : Vec Ideal S4x4096 .f32) (i : S1x1x4096.Idx) :
    outS x0 x2 i = valS (rowOf x0) (colOf x2 (i 2)) := by
  obtain ⟨z, k, j, rfl⟩ : ∃ (z : Fin 1) (k : Fin 1) (j : Fin 4096), i = ix3 z k j := ⟨i 0, i 1, i 2, eq_ix3 i⟩
  obtain rfl : z = 0 := Subsingleton.elim _ _
  obtain rfl : k = 0 := Subsingleton.elim _ _
  exact outS_apply (firstRow_spec _)

/-! ## Where the blocks lie -/

/-- The boxes' block at point `t` is image `t / 5`. -/
theorem idx0 : ∀ t : Fin cfg0.N, win0_0.index t = ![t.val / 5, 0, 0] := by decide +kernel
/-- The transposed boxes' block at point `t` is image `t / 5`. -/
theorem idx1 : ∀ t : Fin cfg0.N, win0_1.index t = ![t.val / 5, 0, 0] := by decide +kernel
/-- The anchors' block at point `t` is tile `t % 5`. -/
theorem idx2 : ∀ t : Fin cfg0.N, win0_2.index t = ![0, t.val % 5] := by decide +kernel
/-- The class targets' block at point `t`. -/
theorem idx3 : ∀ t : Fin cfg0.N, win0_3.index t = ![t.val / 5, 0, t.val % 5] := by decide +kernel
/-- The regression targets' block at point `t`. -/
theorem idx4 : ∀ t : Fin cfg0.N, win0_4.index t = ![t.val / 5, 0, t.val % 5] := by decide +kernel
/-- The states' block at point `t`. -/
theorem idx5 : ∀ t : Fin cfg0.N, win0_5.index t = ![t.val / 5, 0, t.val % 5] := by decide +kernel

/-- How much of the anchors' block the array has, on both axes. -/
theorem xs2 : ∀ t : Fin cfg0.N, win0_2.xsize (grid0.coords t) 0 = 4 ∧
    win0_2.xsize (grid0.coords t) 1 = min 4096 (20000 - (t.val % 5) * 4096) := by decide +kernel
/-- How much of the outputs' blocks the arrays have, along the anchors. -/
theorem xs345 : ∀ t : Fin cfg0.N, win0_3.xsize (grid0.coords t) 2 = min 4096 (20000 - (t.val % 5) * 4096) ∧
    win0_4.xsize (grid0.coords t) 2 = min 4096 (20000 - (t.val % 5) * 4096) ∧
    win0_5.xsize (grid0.coords t) 2 = min 4096 (20000 - (t.val % 5) * 4096) := by decide +kernel

variable (m : (ℓ : Loc nD τ sig) → Buf (Elt Ideal) ℓ) (ρ : Dev nD → PrngReg)

/-- A column of the anchors' buffer inside the array is the array's, whatever the buffer holds past its end. -/
theorem fill_col (c : Dev nD) (t : Fin cfg0.N) (d : S4x4096.Idx → EReal) (q : Fin 4) (n : Fin 4096) (N : Fin 20000)
    (h : N.val = (t.val % 5) * 4096 + n.val) :
    win0_2.fill (grid0.coords t) d (iblk m c 2 t) (ix2 q n) = V m c main_v2 (ix2 q N) := by
  have hm : win0_2.moved (grid0.coords t) (ix2 q n) = true := by
    refine (win0_2.moved_iff _ _).mpr fun a => ?_
    have hN := N.isLt
    have hn := n.isLt
    have hq := q.isLt
    fin_cases a
    · show q.val < win0_2.xsize (grid0.coords t) 0
      rw [(xs2 t).1]; exact hq
    · show n.val < win0_2.xsize (grid0.coords t) 1
      rw [(xs2 t).2]; omega
  unfold Pipeline.Window.fill
  rw [dif_pos hm]
  blk_ext [iblk, idx2]

/-- A column's four corners, from the whole array. -/
def colA (A : Vec Ideal S4x20000 .f32) (N : Fin 20000) : Fin 4 → EReal :=
  ![A (ix2 0 N), A (ix2 1 N), A (ix2 2 N), A (ix2 3 N)]

/-- A column of the buffer inside the array, its four corners. -/
theorem colOf_fill (c : Dev nD) (t : Fin cfg0.N) (d : S4x4096.Idx → EReal) (n : Fin 4096) (N : Fin 20000)
    (h : N.val = (t.val % 5) * 4096 + n.val) :
    colOf (win0_2.fill (grid0.coords t) d (iblk m c 2 t)) n = colA (V m c main_v2) N := by
  unfold colOf colA
  rw [fill_col m c t d 0 n N h, fill_col m c t d 1 n N h, fill_col m c t d 2 n N h, fill_col m c t d 3 n N h]

/-- A column inside the array does not depend on what the buffer holds past its end. -/
theorem colOf_fill_eq (c : Dev nD) (t : Fin cfg0.N) (d d' : S4x4096.Idx → EReal) (n : ℕ) (hn : n < min 4096 (20000 - (t.val % 5) * 4096)) :
    colOf (win0_2.fill (grid0.coords t) d (iblk m c 2 t)) ⟨n, by omega⟩ = colOf (win0_2.fill (grid0.coords t) d' (iblk m c 2 t)) ⟨n, by omega⟩ := by
  rw [colOf_fill m c t d ⟨n, by omega⟩ ⟨(t.val % 5) * 4096 + n, by omega⟩ rfl, colOf_fill m c t d' ⟨n, by omega⟩ ⟨(t.val % 5) * 4096 + n, by omega⟩ rfl]

/-- Class targets depend on the anchors' column only. -/
theorem outC_congr (x0 : Vec Ideal S1x104x8 .f32) (x1 : Vec Ideal S1x8x104 .f32) {x2 x2' : Vec Ideal S4x4096 .f32} (i : S1x80x4096.Idx)
    (h : colOf x2 (i 2) = colOf x2' (i 2)) : outC x0 x1 x2 i = outC x0 x1 x2' i := by rw [outC_eq, outC_eq, h]

/-- Regression targets depend on the anchors' column only. -/
theorem outR_congr (x0 : Vec Ideal S1x104x8 .f32) (x1 : Vec Ideal S1x8x104 .f32) {x2 x2' : Vec Ideal S4x4096 .f32} (i : S1x4x4096.Idx)
    (h : colOf x2 (i 2) = colOf x2' (i 2)) : outR x0 x1 x2 i = outR x0 x1 x2' i := by rw [outR_eq, outR_eq, h]

/-- States depend on the anchors' column only. -/
theorem outS_congr (x0 : Vec Ideal S1x104x8 .f32) {x2 x2' : Vec Ideal S4x4096 .f32} (i : S1x1x4096.Idx)
    (h : colOf x2 (i 2) = colOf x2' (i 2)) : outS x0 x2 i = outS x0 x2' i := by rw [outS_eq, outS_eq, h]

/-- What a write-back moves of the class targets does not depend on the anchors' buffer past the array's end. -/
theorem cutC (c : Dev nD) (t : Fin cfg0.N) (x0 : Vec Ideal S1x104x8 .f32) (x1 : Vec Ideal S1x8x104 .f32) (d : S4x4096.Idx → EReal) :
    win0_3.cut (grid0.coords t) (outC x0 x1 (win0_2.fill (grid0.coords t) d (iblk m c 2 t)))
      = win0_3.cut (grid0.coords t) (outC x0 x1 (ancFill m c t)) := by
  funext y
  have h2 : (y 2).val < win0_3.xsize (grid0.coords t) 2 := (y 2).isLt
  rw [(xs345 t).1] at h2
  exact outC_congr x0 x1 (win0_3.xinj (grid0.coords t) y) (colOf_fill_eq m c t d _ (y 2).val h2)

/-- The same of the regression targets. -/
theorem cutR (c : Dev nD) (t : Fin cfg0.N) (x0 : Vec Ideal S1x104x8 .f32) (x1 : Vec Ideal S1x8x104 .f32) (d : S4x4096.Idx → EReal) :
    win0_4.cut (grid0.coords t) (outR x0 x1 (win0_2.fill (grid0.coords t) d (iblk m c 2 t)))
      = win0_4.cut (grid0.coords t) (outR x0 x1 (ancFill m c t)) := by
  funext y
  have h2 : (y 2).val < win0_4.xsize (grid0.coords t) 2 := (y 2).isLt
  rw [(xs345 t).2.1] at h2
  exact outR_congr x0 x1 (win0_4.xinj (grid0.coords t) y) (colOf_fill_eq m c t d _ (y 2).val h2)

/-- The same of the states. -/
theorem cutS (c : Dev nD) (t : Fin cfg0.N) (x0 : Vec Ideal S1x104x8 .f32) (d : S4x4096.Idx → EReal) :
    win0_5.cut (grid0.coords t) (outS x0 (win0_2.fill (grid0.coords t) d (iblk m c 2 t)))
      = win0_5.cut (grid0.coords t) (outS x0 (ancFill m c t)) := by
  funext y
  have h2 : (y 2).val < win0_5.xsize (grid0.coords t) 2 := (y 2).isLt
  rw [(xs345 t).2.2] at h2
  exact outS_congr x0 (win0_5.xinj (grid0.coords t) y) (colOf_fill_eq m c t d _ (y 2).val h2)

/-- The body at each point, with what it leaves in the outputs' buffers inside the arrays. -/
theorem body_exact (c : Dev nD) : BodyObligationLoose (dats m 0 c) (defs₀ (F := Ideal)) Variants.none () Set.univ := fun t => by
  rw [bigSep_W0, bigSep_W0, defs₀_row]
  rw [show (dats m 0 c).Φ t.succ = (dats m 0 c).Φ t.castSucc from rfl,
    show (dats m 0 c).owesAt () t.succ = (dats m 0 c).owesAt () t.castSucc from rfl]
  change iprop((dats m 0 c).Φ t.castSucc ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare ((dats m 0 c).before 4 t d))
      ∗ (∃ d, owns (c : Thread nD τ) (win0_5.stage (cfg0.slots t 5)) fullShare ((dats m 0 c).before 5 t d)))
    ⊢ wp frame (wpE (defs₀ (F := Ideal)) Variants.none c none) Set.univ (bodyAt0 t) fun _ =>
      iprop((dats m 0 c).Φ t.castSucc ∗ (dats m 0 c).owesAt () t.castSucc
      ∗ owns (c : Thread nD τ) (win0_0.stage (cfg0.slots t 0)) fullShare (iblk m c 0 t)
      ∗ owns (c : Thread nD τ) (win0_1.stage (cfg0.slots t 1)) fullShare (iblk m c 1 t)
      ∗ (∃ d, owns (c : Thread nD τ) (win0_2.stage (cfg0.slots t 2)) fullShare
          (win0_2.fill (grid0.coords t) d (win0_2.cut (grid0.coords t) (ancFill m c t))))
      ∗ (∃ d, owns (c : Thread nD τ) (win0_3.stage (cfg0.slots t 3)) fullShare
          (win0_3.fill (grid0.coords t) d (win0_3.cut (grid0.coords t) (outC (iblk m c 0 t) (iblk m c 1 t) (ancFill m c t)))))
      ∗ (∃ d, owns (c : Thread nD τ) (win0_4.stage (cfg0.slots t 4)) fullShare
          (win0_4.fill (grid0.coords t) d (win0_4.cut (grid0.coords t) (outR (iblk m c 0 t) (iblk m c 1 t) (ancFill m c t)))))
      ∗ (∃ d, owns (c : Thread nD τ) (win0_5.stage (cfg0.slots t 5)) fullShare
          (win0_5.fill (grid0.coords t) d (win0_5.cut (grid0.coords t) (outS (iblk m c 0 t) (ancFill m c t))))))
  iintro ⟨HΦ, Ho, ⟨%d0, H0⟩, ⟨%d1, H1⟩, ⟨%d2, H2⟩, ⟨%d3, H3⟩, ⟨%d4, H4⟩, ⟨%d5, H5⟩⟩
  rw [before_0, before_1, before_2]
  iapply (sound_kernel c Set.univ (grid0.coords t) _ _ _ _ _ _ _ _ _ _ _ _ (iblk m c 0 t) (iblk m c 1 t)
    (win0_2.fill (grid0.coords t) d2 (iblk m c 2 t)) _)
  isplitl [H0]
  · iexact H0
  isplitl [H1]
  · iexact H1
  isplitl [H2]
  · iexact H2
  isplitl [H3]
  · iexists _; iexact H3
  isplitl [H4]
  · iexists _; iexact H4
  isplitl [H5]
  · iexists _; iexact H5
  iintro ⟨K0, K1, K2, K3, K4, K5⟩
  isplitl [HΦ]
  · iexact HΦ
  isplitl [Ho]
  · iexact Ho
  isplitl [K0]
  · iexact K0
  isplitl [K1]
  · iexact K1
  isplitl [K2]
  · iexists d2
    rw [show win0_2.cut (grid0.coords t) (ancFill m c t) = iblk m c 2 t from win0_2.cut_fill _ _ _]
    iexact K2
  isplitl [K3]
  · iexists (outC (iblk m c 0 t) (iblk m c 1 t) (win0_2.fill (grid0.coords t) d2 (iblk m c 2 t)))
    rw [win0_3.fill_congr_cut (grid0.coords t) (cutC m c t (iblk m c 0 t) (iblk m c 1 t) d2)]
    iexact K3
  isplitl [K4]
  · iexists (outR (iblk m c 0 t) (iblk m c 1 t) (win0_2.fill (grid0.coords t) d2 (iblk m c 2 t)))
    rw [win0_4.fill_congr_cut (grid0.coords t) (cutR m c t (iblk m c 0 t) (iblk m c 1 t) d2)]
    iexact K4
  iexists (outS (iblk m c 0 t) (win0_2.fill (grid0.coords t) d2 (iblk m c 2 t)))
  rw [win0_5.fill_congr_cut (grid0.coords t) (cutS m c t (iblk m c 0 t) d2)]
  iexact K5

/-! ## The result arrays of the launch -/

/-- The boxes of image `b`, from the padded table. -/
def rowA (A : Vec Ideal S8x104x8 .f32) (b : Fin 8) (r : Fin 104) : Fin 4 → EReal :=
  ![A (ix3 b r 0), A (ix3 b r 1), A (ix3 b r 2), A (ix3 b r 3)]

/-- The corners of image `b`'s boxes, from the transposed table. -/
def corA (A : Vec Ideal S8x8x104 .f32) (b : Fin 8) (r : Fin 104) (k : Fin 4) : EReal := A (ix3 b (Fin.castLE (by decide) k) r)

/-- The image of a grid point. -/
theorem pt_lt (t : Fin cfg0.N) : t.val / 5 < 8 := by have := t.isLt; have h : cfg0.N = 40 := rfl; omega

/-- The boxes of the block at point `t`. -/
theorem rowOf_iblk (c : Dev nD) (t : Fin cfg0.N) (b : Fin 8) (h : b.val = t.val / 5) :
    rowOf (iblk m c 0 t) = rowA (V m c main_v0) b := by
  have key : ∀ (r : Fin 104) (q : Fin 8), (iblk m c 0 t : S1x104x8.Idx → EReal) (ix3 0 r q) = V m c main_v0 (ix3 b r q) := by
    intro r q
    blk_ext [iblk, idx0]
  funext r
  unfold rowOf rowA
  rw [key, key, key, key]

/-- The transposed boxes of the block at point `t`. -/
theorem iblk1_apply (c : Dev nD) (t : Fin cfg0.N) (b : Fin 8) (h : b.val = t.val / 5) (q : Fin 8) (r : Fin 104) :
    (iblk m c 1 t : S1x8x104.Idx → EReal) (ix3 0 q r) = V m c main_v1 (ix3 b q r) := by
  blk_ext [iblk, idx1]

/-- Class targets of equal tables, labels, anchors and classes are equal. -/
theorem valC_congr {bx bx' : Fin 104 → Fin 4 → EReal} {lab lab' : Fin 104 → EReal} {a a' : Fin 4 → EReal} {k k' : ℕ}
    (h : bx = bx') (hl : lab = lab') (ha : a = a') (hk : k = k') : valC bx lab a k = valC bx' lab' a' k' := by subst h hl ha hk; rfl

/-- Regression targets of equal tables, anchors and corners are equal. -/
theorem valR_congr {bx bx' cor cor' : Fin 104 → Fin 4 → EReal} {a a' : Fin 4 → EReal} {k k' : Fin 4}
    (h : bx = bx') (hl : cor = cor') (ha : a = a') (hk : k = k') : valR bx cor a k = valR bx' cor' a' k' := by subst h hl ha hk; rfl

/-- States of equal tables and anchors are equal. -/
theorem valS_congr {bx bx' : Fin 104 → Fin 4 → EReal} {a a' : Fin 4 → EReal}
    (h : bx = bx') (ha : a = a') : valS bx a = valS bx' a' := by subst h ha; rfl

/-- The class targets after the launch. -/
theorem arr3 (c : Dev nD) : (dats m 0 c).arrAt 3 cfg0.N = (fun i : S8x80x20000.Idx =>
    valC (rowA (V m c main_v0) (i 0)) (fun r => V m c main_v1 (ix3 (i 0) 4 r)) (colA (V m c main_v2) (i 2)) (i 1).val) := by
  refine (dats m 0 c).arrAt_eq_of_covers 3 _ (by decide +kernel) fun t hf y => ?_
  have e0 : ((((cfg0.win 3).blk t).view.emb y) 0 : ℕ) = t.val / 5 := by
    have h0 : (y 0).val < 1 := Nat.lt_of_lt_of_le (y 0).isLt (win0_3.xsize_le _ 0)
    blk_simp [idx3]; omega
  have e1 : ((((cfg0.win 3).blk t).view.emb y) 1 : ℕ) = (y 1).val := by blk_simp [idx3]
  have e2 : ((((cfg0.win 3).blk t).view.emb y) 2 : ℕ) = (t.val % 5) * 4096 + (y 2).val := by blk_simp [idx3]
  refine (outC_eq _ _ _ (win0_3.xinj (grid0.coords t) y)).trans ?_
  exact valC_congr (rowOf_iblk m c t _ e0) (funext fun r => iblk1_apply m c t _ e0 4 r) (colOf_fill m c t _ _ _ e2) e1.symm

/-- The regression targets after the launch. -/
theorem arr4 (c : Dev nD) : (dats m 0 c).arrAt 4 cfg0.N = (fun i : S8x4x20000.Idx =>
    valR (rowA (V m c main_v0) (i 0)) (corA (V m c main_v1) (i 0)) (colA (V m c main_v2) (i 2)) (i 1)) := by
  refine (dats m 0 c).arrAt_eq_of_covers 4 _ (by decide +kernel) fun t hf y => ?_
  have e0 : ((((cfg0.win 4).blk t).view.emb y) 0 : ℕ) = t.val / 5 := by
    have h0 : (y 0).val < 1 := Nat.lt_of_lt_of_le (y 0).isLt (win0_4.xsize_le _ 0)
    blk_simp [idx4]; omega
  have e1 : ((((cfg0.win 4).blk t).view.emb y) 1 : ℕ) = (y 1).val := by blk_simp [idx4]
  have e2 : ((((cfg0.win 4).blk t).view.emb y) 2 : ℕ) = (t.val % 5) * 4096 + (y 2).val := by blk_simp [idx4]
  refine (outR_eq _ _ _ (win0_4.xinj (grid0.coords t) y)).trans ?_
  exact valR_congr (rowOf_iblk m c t _ e0) (funext fun r => funext fun k => iblk1_apply m c t _ e0 _ r) (colOf_fill m c t _ _ _ e2) (Fin.ext e1.symm)

/-- The states after the launch. -/
theorem arr5 (c : Dev nD) : (dats m 0 c).arrAt 5 cfg0.N = (fun i : S8x1x20000.Idx =>
    valS (rowA (V m c main_v0) (i 0)) (colA (V m c main_v2) (i 2))) := by
  refine (dats m 0 c).arrAt_eq_of_covers 5 _ (by decide +kernel) fun t hf y => ?_
  have e0 : ((((cfg0.win 5).blk t).view.emb y) 0 : ℕ) = t.val / 5 := by
    have h0 : (y 0).val < 1 := Nat.lt_of_lt_of_le (y 0).isLt (win0_5.xsize_le _ 0)
    blk_simp [idx5]; omega
  have e1 : ((((cfg0.win 5).blk t).view.emb y) 1 : ℕ) = (y 1).val := by blk_simp [idx5]
  have e2 : ((((cfg0.win 5).blk t).view.emb y) 2 : ℕ) = (t.val % 5) * 4096 + (y 2).val := by blk_simp [idx5]
  refine (outS_eq _ _ (win0_5.xinj (grid0.coords t) y)).trans ?_
  exact valS_congr (rowOf_iblk m c t _ e0) (colOf_fill m c t _ _ _ e2)

end Cert.KernelIdeal.Hand

end
-- ==== Proof.IdealOut.lean ====
/-
  The kernel's results over the extended reals, from its two arguments: each is the match of every anchor of every image
  against the image's boxes followed by four rows of zeros.
-/
module

public import proofs.«01_k».proof.Proof.IdealVal
public import Idealize.ShloMosaic.Lib.ValueLayout

@[expose] public section

set_option maxRecDepth 16384

noncomputable section

namespace Cert.KernelIdeal.Hand

open Cert.KernelIdeal Cert.KernelIdeal.Gen Cert.Match
open Idealize.ShloMosaic Idealize.ShloMosaic.TcCoe
open Idealize.SL Idealize.SL.Sem
open Idealize.ShloMosaic.Pipeline (Dat)

/-- Image `b`'s boxes, then rows of zeros. -/
def tab (x : Vec Ideal S8x100x5 .f32) (b : Fin 8) (r : Fin 104) : Fin 4 → EReal :=
  fun k => if h : r.val < 100 then x (ix3 b ⟨r.val, h⟩ (Fin.castLE (by decide) k)) else 0

/-- Image `b`'s labels, then zeros. -/
def labs (x : Vec Ideal S8x100x5 .f32) (b : Fin 8) (r : Fin 104) : EReal :=
  if h : r.val < 100 then x (ix3 b ⟨r.val, h⟩ 4) else 0

/-- Anchor `n`'s corners. -/
def anc (y : Vec Ideal S20000x4 .f32) (n : Fin 20000) : Fin 4 → EReal := fun k => y (ix2 n k)

variable (m : (ℓ : Loc nD τ sig) → Buf (Elt Ideal) ℓ) (ρ : Dev nD → PrngReg)

/-- The padded table as an operation of the annotations. -/
theorem V_v0 (c : Dev nD) : V m c main_v0 = pad S8x104x8 ![0, 0, 0] ![0, 4, 3] ![0, 0, 0]
    (m ((c : Thread nD τ).loc main_arg0)) (sitofp (F := Ideal) .f32 (constantI S_ 32 0#32)) pads_S8x100x5_S8x104x8_000_040_030 h_S_ := by
  show StableHlo.after (List.flatten [hostOps0, hostOps0_1, hostOps0_2]) _ _ = _
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp

/-- The transposed table as an operation of the padded one. -/
theorem V_v1 (c : Dev nD) : V m c main_v1 = transpose S8x8x104 [0, 2, 1] (V m c main_v0) transposes_S8x104x8_S8x8x104_0_2_1 := by
  rw [V_v0]
  show StableHlo.after (List.flatten [hostOps0, hostOps0_1, hostOps0_2]) _ _ = _
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp

/-- The transposed anchors as an operation of the anchors. -/
theorem V_v2 (c : Dev nD) : V m c main_v2 = transpose S4x20000 [1, 0] (m ((c : Thread nD τ).loc main_arg1)) transposes_S20000x4_S4x20000_1_0 := by
  show StableHlo.after (List.flatten [hostOps0, hostOps0_1, hostOps0_2]) _ _ = _
  simp only [hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
  after_results_simp

/-- The padded table at an index: the annotations, then zeros. -/
theorem pad_apply (x : Vec Ideal S8x100x5 .f32) (b : Fin 8) (r : Fin 104) (q : Fin 8) (hq : q.val < 5) :
    pad S8x104x8 ![0, 0, 0] ![0, 4, 3] ![0, 0, 0] x (sitofp (F := Ideal) .f32 (constantI S_ 32 0#32)) pads_S8x100x5_S8x104x8_000_040_030 h_S_ (ix3 b r q)
      = if h : r.val < 100 then x (ix3 b ⟨r.val, h⟩ ⟨q.val, hq⟩) else 0 := by
  pointwise []
  have h0 : FloatOps.sitofp (F := Ideal) FTy.f32 0#32 = (0 : EReal) := by
    show (((0#32 : BitVec 32).toInt : ℝ) : EReal) = 0
    simp
  by_cases h : r.val < 100
  · rw [dif_pos ⟨h, hq⟩, dif_pos h]
  · rw [dif_neg (fun hh => h hh.1), dif_neg h, h0]

/-- Image `b`'s rows of the padded table. -/
theorem rowA_eq (c : Dev nD) (b : Fin 8) : rowA (V m c main_v0) b = tab (m ((c : Thread nD τ).loc main_arg0)) b := by
  funext r k
  rw [V_v0]
  unfold rowA tab
  rw [pad_apply _ b r 0 (by decide), pad_apply _ b r 1 (by decide), pad_apply _ b r 2 (by decide), pad_apply _ b r 3 (by decide)]
  fin_cases k <;> rfl

/-- Image `b`'s corners of the transposed table. -/
theorem corA_eq (c : Dev nD) (b : Fin 8) : corA (V m c main_v1) b = tab (m ((c : Thread nD τ).loc main_arg0)) b := by
  funext r k
  rw [V_v1, V_v0]
  unfold corA tab
  refine (ValueIdx.transpose_ix3_021_apply _ transposes_S8x104x8_S8x8x104_0_2_1 b _ r).trans ?_
  exact pad_apply _ b r _ (by have := k.isLt; show k.val < 5; omega)

/-- Image `b`'s labels of the transposed table. -/
theorem labA_eq (c : Dev nD) (b : Fin 8) : (fun r => V m c main_v1 (ix3 b 4 r)) = labs (m ((c : Thread nD τ).loc main_arg0)) b := by
  funext r
  rw [V_v1, V_v0]
  unfold labs
  refine (ValueIdx.transpose_ix3_021_apply _ transposes_S8x104x8_S8x8x104_0_2_1 b 4 r).trans ?_
  exact pad_apply _ b r 4 (by decide)

/-- Anchor `n`'s column of the transposed anchors. -/
theorem colA_eq (c : Dev nD) (n : Fin 20000) : colA (V m c main_v2) n = anc (m ((c : Thread nD τ).loc main_arg1)) n := by
  funext k
  rw [V_v2]
  unfold colA anc
  pointwise []
  fin_cases k <;> rfl

/-- The valuation after the launch. -/
abbrev VL (c : Dev nD) : Valuation τ sig (Elt Ideal) :=
  Pipeline.withArrays (cfgs 0).spec c (V0 m c) fun w => (dats m 0 c).arrAt w (cfgs 0).N

/-- The class targets' result. -/
theorem tail_v4 (c : Dev nD) : Pipeline.afterTail₀ cfgs (dats m) 0 (V0 m) [hostOps1] c main_v4 = (fun i : S8x20000x80.Idx =>
    valC (tab (m ((c : Thread nD τ).loc main_arg0)) (i 0)) (labs (m ((c : Thread nD τ).loc main_arg0)) (i 0))
      (anc (m ((c : Thread nD τ).loc main_arg1)) (i 1)) (i 2).val) := by
  have h : VL m c (Proc.devRef .tc main_v3_0) = _ := (Pipeline.withArrays_arr spec0 launch0.win.arr_inj c (V0 m c) _ 3).trans (arr3 m c)
  unfold Pipeline.afterTail₀
  show StableHlo.after _ (VL m c) _ = _
  simp only [hostOps1, List.flatten_cons, List.flatten_nil, List.append_nil]
  after_results_simp
  rw [h]
  funext i
  obtain ⟨b, n, k, rfl⟩ : ∃ (b : Fin 8) (n : Fin 20000) (k : Fin 80), i = ix3 b n k := ⟨i 0, i 1, i 2, eq_ix3 i⟩
  refine (ValueIdx.transpose_ix3_021_apply _ transposes_S8x80x20000_S8x20000x80_0_2_1 b n k).trans ?_
  exact valC_congr (rowA_eq m c b) (labA_eq m c b) (colA_eq m c n) rfl

/-- The regression targets' result. -/
theorem tail_v5 (c : Dev nD) : Pipeline.afterTail₀ cfgs (dats m) 0 (V0 m) [hostOps1] c main_v5 = (fun i : S8x20000x4.Idx =>
    valR (tab (m ((c : Thread nD τ).loc main_arg0)) (i 0)) (tab (m ((c : Thread nD τ).loc main_arg0)) (i 0))
      (anc (m ((c : Thread nD τ).loc main_arg1)) (i 1)) (i 2)) := by
  have h : VL m c (Proc.devRef .tc main_v3_1) = _ := (Pipeline.withArrays_arr spec0 launch0.win.arr_inj c (V0 m c) _ 4).trans (arr4 m c)
  unfold Pipeline.afterTail₀
  show StableHlo.after _ (VL m c) _ = _
  simp only [hostOps1, List.flatten_cons, List.flatten_nil, List.append_nil]
  after_results_simp
  rw [h]
  funext i
  obtain ⟨b, n, k, rfl⟩ : ∃ (b : Fin 8) (n : Fin 20000) (k : Fin 4), i = ix3 b n k := ⟨i 0, i 1, i 2, eq_ix3 i⟩
  refine (ValueIdx.transpose_ix3_021_apply _ transposes_S8x4x20000_S8x20000x4_0_2_1 b n k).trans ?_
  exact valR_congr (rowA_eq m c b) (corA_eq m c b) (colA_eq m c n) rfl

/-- The states' result. -/
theorem tail_v6 (c : Dev nD) : Pipeline.afterTail₀ cfgs (dats m) 0 (V0 m) [hostOps1] c main_v6 = (fun i : S8x20000.Idx =>
    valS (tab (m ((c : Thread nD τ).loc main_arg0)) (i 0)) (anc (m ((c : Thread nD τ).loc main_arg1)) (i 1))) := by
  have h : VL m c (Proc.devRef .tc main_v3_2) = _ := (Pipeline.withArrays_arr spec0 launch0.win.arr_inj c (V0 m c) _ 5).trans (arr5 m c)
  unfold Pipeline.afterTail₀
  show StableHlo.after _ (VL m c) _ = _
  simp only [hostOps1, List.flatten_cons, List.flatten_nil, List.append_nil]
  after_results_simp
  rw [h]
  funext i
  obtain ⟨b, n, rfl⟩ : ∃ (b : Fin 8) (n : Fin 20000), i = ix2 b n := ⟨i 0, i 1, eq_ix2 i⟩
  pointwise []
  exact valS_congr (rowA_eq m c b) (colA_eq m c n)

/-- The kernel's run: its three results are the match, and its arguments end unchanged. -/
theorem run : θ_run (defs (F := Ideal)) (onTc (τ := τ) (main (F := Ideal))) ⟨m, fun _ => 0, ρ⟩ (fun r => ∀ c : Dev nD,
    (r.2.mem ((c.tc : Thread nD τ).loc main_v4) = (fun i : S8x20000x80.Idx =>
      valC (tab (m ((c : Thread nD τ).loc main_arg0)) (i 0)) (labs (m ((c : Thread nD τ).loc main_arg0)) (i 0))
        (anc (m ((c : Thread nD τ).loc main_arg1)) (i 1)) (i 2).val))
    ∧ (r.2.mem ((c.tc : Thread nD τ).loc main_v5) = (fun i : S8x20000x4.Idx =>
      valR (tab (m ((c : Thread nD τ).loc main_arg0)) (i 0)) (tab (m ((c : Thread nD τ).loc main_arg0)) (i 0))
        (anc (m ((c : Thread nD τ).loc main_arg1)) (i 1)) (i 2)))
    ∧ (r.2.mem ((c.tc : Thread nD τ).loc main_v6) = (fun i : S8x20000.Idx =>
      valS (tab (m ((c : Thread nD τ).loc main_arg0)) (i 0)) (anc (m ((c : Thread nD τ).loc main_arg1)) (i 1))))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_frame_around cfgs (dats m) 0 launch0 defs₀ Variants.none m ρ main
    (body_exact m) (fun c w => by unfold Dat.share; split <;> rfl) (fun _ _ => rfl) (V0 m) [hostOps1] sfx_sub sfx_fresh sfx_keeps
    (hmain m Variants.none) (fun _ _ => rfl) (fun _ _ => rfl) _
    (fun r h c => ⟨((h.1 c).2 main_v4 (Pipeline.mem_restRefs_of main_v4 (by decide) (by decide))).trans (tail_v4 m c),
      ((h.1 c).2 main_v5 (Pipeline.mem_restRefs_of main_v5 (by decide) (by decide))).trans (tail_v5 m c),
      ((h.1 c).2 main_v6 (Pipeline.mem_restRefs_of main_v6 (by decide) (by decide))).trans (tail_v6 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)

end Cert.KernelIdeal.Hand

end
-- ==== Proof.RefPick.lean ====
/-
  The reference's arg-max and its two gathers, read at an index: the arg-max names the first box of largest ratio, and
  a gather at a row number in range takes that row.
-/
module

public import proofs.«01_k».proof.Proof.RefRun
public import proofs.«01_k».proof.Proof.Spec
public import Idealize.ShloMosaic.Lib.Pointwise

@[expose] public section

set_option maxRecDepth 16384

noncomputable section

namespace Cert.ReferenceIdeal.Hand

open Cert.ReferenceIdeal Cert.ReferenceIdeal.Gen Cert.Match
open Idealize.ShloMosaic Idealize.ShloMosaic.TcCoe Idealize.ShloMosaic.StableHlo
open Idealize.SL Idealize.SL.Sem

/-- The pair `p` is at least as good as `q`: a larger value, or the same value at a row number no larger. -/
def AtLeast (p q : EReal × BitVec 32) : Prop := q.1 < p.1 ∨ (q.1 = p.1 ∧ p.2.toInt ≤ q.2.toInt)

theorem AtLeast.refl (p : EReal × BitVec 32) : AtLeast p p := Or.inr ⟨rfl, le_rfl⟩

theorem AtLeast.trans {p q r : EReal × BitVec 32} (h : AtLeast p q) (k : AtLeast q r) : AtLeast p r := by
  rcases h with h | ⟨h, h'⟩ <;> rcases k with k | ⟨k, k'⟩
  · exact Or.inl (k.trans h)
  · exact Or.inl (k ▸ h)
  · exact Or.inl (h ▸ k)
  · exact Or.inr ⟨k.trans h, h'.trans k'⟩

/-- The arg-max body returns one of its two pairs, and the returned pair is at least as good as both. -/
theorem reducer_pick (a b : EReal × BitVec 32) :
    (reducer_argmax_f32_i32 (F := Ideal) a b = a ∧ AtLeast a b) ∨ (reducer_argmax_f32_i32 (F := Ideal) a b = b ∧ AtLeast b a) := by
  obtain ⟨a1, a2⟩ := a
  obtain ⟨b1, b2⟩ := b
  have e : reducer_argmax_f32_i32 (F := Ideal) (a1, a2) (b1, b2)
      = (if b1 < a1 then a1 else b1, if b1 < a1 ∨ (a1 = b1 ∧ a2.toInt < b2.toInt) then a2 else b2) := by
    unfold reducer_argmax_f32_i32
    simp only [Ideal.cmpf_def, Ideal.cmp, IntOp.ori, IntOp.andi, IntOp.cmpi, Scalar.select]
    by_cases h : b1 < a1 <;> by_cases h' : a1 = b1 <;> by_cases h'' : a2.toInt < b2.toInt <;>
      simp [h, h', h'', BitVec.slt_eq_decide]
  rw [e]
  by_cases h : b1 < a1
  · left; exact ⟨by simp only [h, if_true, true_or], Or.inl h⟩
  · by_cases h' : a1 = b1
    · subst h'
      by_cases h'' : a2.toInt < b2.toInt
      · left; exact ⟨by simp only [h'', lt_irrefl, if_false, if_true, true_and, or_true], Or.inr ⟨rfl, h''.le⟩⟩
      · right; exact ⟨by simp only [h'', lt_irrefl, if_false, and_false, or_false], Or.inr ⟨rfl, not_lt.mp h''⟩⟩
    · right
      exact ⟨by simp only [h, h', if_false, false_and, or_false], Or.inl (lt_of_le_of_ne (not_lt.mp h) h')⟩

/-- Folding the arg-max body over a list returns the initial pair or one of the list's, at least as good as all of them. -/
theorem foldl_pick {α : Type} (g : α → EReal × BitVec 32) (l : List α) (p : EReal × BitVec 32) :
    (l.foldl (fun r n => reducer_argmax_f32_i32 (F := Ideal) r (g n)) p = p ∨
      ∃ n ∈ l, l.foldl (fun r n => reducer_argmax_f32_i32 (F := Ideal) r (g n)) p = g n) ∧
    AtLeast (l.foldl (fun r n => reducer_argmax_f32_i32 (F := Ideal) r (g n)) p) p ∧
    ∀ n ∈ l, AtLeast (l.foldl (fun r n => reducer_argmax_f32_i32 (F := Ideal) r (g n)) p) (g n) := by
  induction l generalizing p with
  | nil => exact ⟨Or.inl rfl, AtLeast.refl p, fun n h => absurd h List.not_mem_nil⟩
  | cons m l ih =>
    obtain ⟨h1, h2, h3⟩ := ih (reducer_argmax_f32_i32 (F := Ideal) p (g m))
    simp only [List.foldl_cons]
    rcases reducer_pick p (g m) with ⟨e, k⟩ | ⟨e, k⟩
    · rw [e] at h1 h2 h3 ⊢
      refine ⟨?_, h2, ?_⟩
      · rcases h1 with h1 | ⟨n, hn, h1⟩
        · exact Or.inl h1
        · exact Or.inr ⟨n, List.mem_cons_of_mem _ hn, h1⟩
      · intro n hn
        rcases List.mem_cons.1 hn with rfl | hn
        · exact h2.trans k
        · exact h3 n hn
    · rw [e] at h1 h2 h3 ⊢
      refine ⟨Or.inr ?_, h2.trans k, ?_⟩
      · rcases h1 with h1 | ⟨n, hn, h1⟩
        · exact ⟨m, List.mem_cons_self, h1⟩
        · exact ⟨n, List.mem_cons_of_mem _ hn, h1⟩
      · intro n hn
        rcases List.mem_cons.1 hn with rfl | hn
        · exact h2
        · exact h3 n hn

/-- The arg-max along the last axis, when `r0` is the first box of largest value, is `r0`. -/
theorem argmax_apply (x : FVec Ideal S8x20000x100 .f32) (y : IVec S8x20000x100 32) (ix : FVec Ideal S_ .f32) (iy : IVec S_ 32)
    (b : Fin 8) (n : Fin 20000) (r0 : Fin 100)
    (hy : ∀ r : Fin 100, y (ix3 b n r) = BitVec.ofNat 32 r.val) (hx : ix (Shape.Idx.first h_S_) = ⊥)
    (hi : iy (Shape.Idx.first h_S_) = 0#32) (h : IsFirst (fun r : Fin 100 => (x (ix3 b n r) : EReal)) r0) :
    (Host.argReduce reducer_argmax_f32_i32 x y ix iy reducesTo_S8x20000x100_S8x20000_d2 h_S_ (ix2 b n)).2 = BitVec.ofNat 32 r0.val := by
  have hr : ∀ r : Fin 100, (BitVec.ofNat 32 r.val).toInt = (r.val : ℤ) := by decide
  rw [Ideal.argReduce_eq_reduce2]
  unfold Host.reduce2
  obtain ⟨h1, h2, h3⟩ := foldl_pick (fun k => ((x (S8x20000x100.rowMajor.symm k) : EReal), y (S8x20000x100.rowMajor.symm k)))
    ((List.finRange S8x20000x100.numel).filter fun k => reducesTo_S8x20000x100_S8x20000_d2.drop (S8x20000x100.rowMajor.symm k) = ix2 b n)
    (ix (Shape.Idx.first h_S_), iy (Shape.Idx.first h_S_))
  rw [hx, hi] at h1 h2
  rw [hx, hi] at h3
  rw [hx, hi]
  have hmem : ∀ r : Fin 100, AtLeast _ ((x (ix3 b n r) : EReal), y (ix3 b n r)) := fun r => by
    have := h3 (S8x20000x100.rowMajor (ix3 b n r)) (by
      rw [List.mem_filter]
      refine ⟨List.mem_finRange _, ?_⟩
      rw [Equiv.symm_apply_apply]
      exact decide_eq_true ((Shape.ReducesTo.fiber_r3_a2 _ _ _).2 ⟨r, rfl⟩))
    rw [Equiv.symm_apply_apply] at this
    exact this
  have hk := hmem r0
  rw [hy] at hk
  apply BitVec.eq_of_toInt_eq
  rw [hr]
  rcases h1 with h1 | ⟨k, hk1, h1⟩
  · rw [h1] at hk ⊢
    rcases hk with hk | ⟨hk, hk'⟩
    · exact absurd hk not_lt_bot
    · have h0 : r0 = 0 := by
        by_contra hne
        have := h.2 0 (Fin.pos_iff_ne_zero.2 hne)
        simp only at this hk
        rw [hk] at this
        exact absurd this not_lt_bot
      subst h0; rfl
  · rw [List.mem_filter] at hk1
    obtain ⟨r, e⟩ := (Shape.ReducesTo.fiber_r3_a2 _ _ _).1 (of_decide_eq_true hk1.2)
    have e' : ix3 b n r = S8x20000x100.rowMajor.symm k := e
    simp only [← e', hy] at h1
    rw [h1] at hk ⊢
    simp only [AtLeast] at hk ⊢
    rw [hr] at hk ⊢
    rw [hr] at hk
    have a1 := h.1 r
    simp only at a1
    rcases hk with hk | ⟨hk, hk'⟩
    · exact absurd hk (not_lt.mpr a1)
    · have : ¬ r < r0 := fun hlt => absurd hk (ne_of_gt (h.2 r hlt))
      rw [Fin.lt_def] at this
      omega

/-- The gather of labels at a row number in range. -/
theorem gather_lab (x : S8x100.Idx → BitVec 32) (idx : IVec S8x20000x1 32) (b : Fin 8) (n : Fin 20000) (r0 : Fin 100)
    (h : idx (ix3 b n 0) = BitVec.ofNat 32 r0.val) :
    Host.gather gather_S8x100_S8x20000x1_S8x20000_n_1_0_0_1_2_11 x idx (ix2 b n) = x (ix2 b r0) := by
  have hr : ∀ r : Fin 100, min (BitVec.ofNat 32 r.val).toInt.toNat (100 - 1) = r.val := by decide
  refine congrArg x (funext fun a => Fin.ext ?_)
  show GatherDims.start _ _ _ a + GatherDims.batchCoord _ _ a + GatherDims.offCoord _ _ a = _
  match a with
  | ⟨0, _⟩ =>
    rw [GatherDims.start_batching _ _ _ _ (by decide +revert), GatherDims.offCoord_eq_zero _ _ _ (by decide +revert)]
    simp only [Nat.zero_add, Nat.add_zero]
    unfold GatherDims.batchCoord
    rw [dif_pos (by decide +revert)]
    rfl
  | ⟨1, _⟩ =>
    rw [GatherDims.batchCoord_eq_zero _ _ _ (by decide +revert), GatherDims.offCoord_eq_zero _ _ _ (by decide +revert)]
    simp only [Nat.add_zero]
    unfold GatherDims.start
    rw [dif_pos (by decide +revert)]
    have hs : GatherDims.siIdx gather_S8x100_S8x20000x1_S8x20000_n_1_0_0_1_2_11 (ix2 b n) ⟨0, by decide⟩ = ix3 b n 0 := by
      funext c
      match c with
      | ⟨0, _⟩ => rfl
      | ⟨1, _⟩ => rfl
      | ⟨2, _⟩ => rfl
    refine Eq.trans ?_ (hr r0)
    rw [← h, ← hs]
    rfl

/-- The gather of boxes at a row number in range. -/
theorem gather_box (x : S8x100x4.Idx → EReal) (idx : IVec S8x20000x1 32) (b : Fin 8) (n : Fin 20000) (r0 : Fin 100) (k : Fin 4)
    (h : idx (ix3 b n 0) = BitVec.ofNat 32 r0.val) :
    Host.gather gather_S8x100x4_S8x20000x1_S8x20000x4_2_1_0_0_1_2_114 x idx (ix3 b n k) = x (ix3 b r0 k) := by
  have hr : ∀ r : Fin 100, min (BitVec.ofNat 32 r.val).toInt.toNat (100 - 1) = r.val := by decide
  refine congrArg x (funext fun a => Fin.ext ?_)
  show GatherDims.start _ _ _ a + GatherDims.batchCoord _ _ a + GatherDims.offCoord _ _ a = _
  match a with
  | ⟨0, _⟩ =>
    rw [GatherDims.start_batching _ _ _ _ (by decide +revert), GatherDims.offCoord_eq_zero _ _ _ (by decide +revert)]
    simp only [Nat.zero_add, Nat.add_zero]
    unfold GatherDims.batchCoord
    rw [dif_pos (by decide +revert)]
    rfl
  | ⟨1, _⟩ =>
    rw [GatherDims.batchCoord_eq_zero _ _ _ (by decide +revert), GatherDims.offCoord_eq_zero _ _ _ (by decide +revert)]
    simp only [Nat.add_zero]
    unfold GatherDims.start
    rw [dif_pos (by decide +revert)]
    have hs : GatherDims.siIdx gather_S8x100x4_S8x20000x1_S8x20000x4_2_1_0_0_1_2_114 (ix3 b n k) ⟨0, by decide⟩ = ix3 b n 0 := by
      funext c
      match c with
      | ⟨0, _⟩ => rfl
      | ⟨1, _⟩ => rfl
      | ⟨2, _⟩ => rfl
    refine Eq.trans ?_ (hr r0)
    rw [← h, ← hs]
    rfl
  | ⟨2, _⟩ =>
    rw [GatherDims.batchCoord_eq_zero _ _ _ (by decide +revert)]
    unfold GatherDims.start GatherDims.offCoord
    rw [dif_neg (by decide +revert), dif_pos (by decide +revert)]
    simp only [Nat.zero_add, Nat.add_zero]
    rfl

end Cert.ReferenceIdeal.Hand

end
-- ==== Proof.RefVal.lean ====
/-
  The reference's stretches over the extended reals, each read at an index: what each leaves in the buffers that later
  stretches use, from what the buffers held before it.
-/
module

public import proofs.«01_k».proof.Proof.RefPick
public import Idealize.ShloMosaic.Lib.Pointwise

@[expose] public section

set_option maxRecDepth 16384

noncomputable section

namespace Cert.ReferenceIdeal.Hand

open Cert.ReferenceIdeal Cert.ReferenceIdeal.Gen Cert.Match
open Idealize.ShloMosaic Idealize.ShloMosaic.TcCoe Idealize.ShloMosaic.StableHlo
open Idealize.SL Idealize.SL.Sem

/-- What a valuation holds in `main_arg0`. -/
abbrev g_arg0 (V : Valuation τ sig (Elt Ideal)) : S8x100x5.Idx → EReal := V (Proc.devRef .tc main_arg0)
/-- What a valuation holds in `main_arg1`. -/
abbrev g_arg1 (V : Valuation τ sig (Elt Ideal)) : S20000x4.Idx → EReal := V (Proc.devRef .tc main_arg1)
/-- What a valuation holds in `main_v0`. -/
abbrev g_v0 (V : Valuation τ sig (Elt Ideal)) : S8x100x4.Idx → EReal := V (Proc.devRef .tc main_v0)
/-- What a valuation holds in `main_v4`. -/
abbrev g_v4 (V : Valuation τ sig (Elt Ideal)) : S8x100.Idx → BitVec 32 := V (Proc.devRef .tc main_v4)
/-- What a valuation holds in `main_v15`. -/
abbrev g_v15 (V : Valuation τ sig (Elt Ideal)) : S8x100.Idx → EReal := V (Proc.devRef .tc main_v15)
/-- What a valuation holds in `main_v26`. -/
abbrev g_v26 (V : Valuation τ sig (Elt Ideal)) : S20000.Idx → EReal := V (Proc.devRef .tc main_v26)
/-- What a valuation holds in `main_v47`. -/
abbrev g_v47 (V : Valuation τ sig (Elt Ideal)) : S8x20000x100.Idx → EReal := V (Proc.devRef .tc main_v47)
/-- What a valuation holds in `main_v57`. -/
abbrev g_v57 (V : Valuation τ sig (Elt Ideal)) : S8x20000x100.Idx → EReal := V (Proc.devRef .tc main_v57)
/-- What a valuation holds in `main_v73`. -/
abbrev g_v73 (V : Valuation τ sig (Elt Ideal)) : S8x20000x100.Idx → EReal := V (Proc.devRef .tc main_v73)
/-- What a valuation holds in `main_v83`. -/
abbrev g_v83 (V : Valuation τ sig (Elt Ideal)) : S8x20000x100.Idx → EReal := V (Proc.devRef .tc main_v83)
/-- What a valuation holds in `main_v84`. -/
abbrev g_v84 (V : Valuation τ sig (Elt Ideal)) : S8x20000.Idx → EReal := V (Proc.devRef .tc main_v84)
/-- What a valuation holds in `main_v85`. -/
abbrev g_v85 (V : Valuation τ sig (Elt Ideal)) : S8x20000.Idx → BitVec 32 := V (Proc.devRef .tc main_v85)
/-- What a valuation holds in `main_v87`. -/
abbrev g_v87 (V : Valuation τ sig (Elt Ideal)) : S8x20000.Idx → BitVec 1 := V (Proc.devRef .tc main_v87)
/-- What a valuation holds in `main_v94`. -/
abbrev g_v94 (V : Valuation τ sig (Elt Ideal)) : S8x20000.Idx → EReal := V (Proc.devRef .tc main_v94)
/-- What a valuation holds in `main_v95`. -/
abbrev g_v95 (V : Valuation τ sig (Elt Ideal)) : S8x20000.Idx → BitVec 32 := V (Proc.devRef .tc main_v95)
/-- What a valuation holds in `main_v100`. -/
abbrev g_v100 (V : Valuation τ sig (Elt Ideal)) : S8x20000x80.Idx → EReal := V (Proc.devRef .tc main_v100)
/-- What a valuation holds in `main_v101`. -/
abbrev g_v101 (V : Valuation τ sig (Elt Ideal)) : S8x20000x4.Idx → EReal := V (Proc.devRef .tc main_v101)
/-- What a valuation holds in `main_v106`. -/
abbrev g_v106 (V : Valuation τ sig (Elt Ideal)) : S20000.Idx → EReal := V (Proc.devRef .tc main_v106)
/-- What a valuation holds in `main_v111`. -/
abbrev g_v111 (V : Valuation τ sig (Elt Ideal)) : S20000.Idx → EReal := V (Proc.devRef .tc main_v111)
/-- What a valuation holds in `main_v152`. -/
abbrev g_v152 (V : Valuation τ sig (Elt Ideal)) : S8x20000x1.Idx → EReal := V (Proc.devRef .tc main_v152)
/-- What a valuation holds in `main_v153`. -/
abbrev g_v153 (V : Valuation τ sig (Elt Ideal)) : S8x20000x1.Idx → EReal := V (Proc.devRef .tc main_v153)
/-- What a valuation holds in `main_v154`. -/
abbrev g_v154 (V : Valuation τ sig (Elt Ideal)) : S8x20000x1.Idx → EReal := V (Proc.devRef .tc main_v154)
/-- What a valuation holds in `main_v155`. -/
abbrev g_v155 (V : Valuation τ sig (Elt Ideal)) : S8x20000x1.Idx → EReal := V (Proc.devRef .tc main_v155)
/-- What a valuation holds in `main_v160`. -/
abbrev g_v160 (V : Valuation τ sig (Elt Ideal)) : S8x20000x4.Idx → EReal := V (Proc.devRef .tc main_v160)

section

variable {F : FTy → Type} [FloatOps F]

/-- The operations that compute the best overlap of each anchor. -/
abbrev opsBestA : List (HloOp τ sig (Elt F)) :=
  [ nullary main_cst_3 (constant S_ .f32 0xFF800000#32),
    binary main_v83 main_cst_3 main_v84 ((fun x v => Host.reduce FloatOps.maximumf x v reducesTo_S8x20000x100_S8x20000_d2 h_S_) : Arr F S8x20000x100 .f32 → Arr F S_ .f32 → Arr F S8x20000 .f32) ]

/-- The operations that compute the box of best overlap. -/
abbrev opsBestB : List (HloOp τ sig (Elt F)) :=
  [ TRef.nullary (TRef.of (T := ⟨S8x20000x100, .i32⟩) main_call1_v0) (iotaInDim S8x20000x100 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S8x20000x100, .f32⟩) main_v83) (TRef.of (T := ⟨S8x20000x100, .i32⟩) main_call1_v0) (TRef.of (T := ⟨S_, .f32⟩) main_call1_cst) (TRef.of (T := ⟨S_, .i32⟩) main_call1_c) (TRef.of (T := ⟨S8x20000, .f32⟩) main_call1_v1_0) (fun x y u v j => (Host.argReduce reducer_argmax_f32_i32 x y u v reducesTo_S8x20000x100_S8x20000_d2 h_S_ j).1),
    TRef.quaternary (TRef.of (T := ⟨S8x20000x100, .f32⟩) main_v83) (TRef.of (T := ⟨S8x20000x100, .i32⟩) main_call1_v0) (TRef.of (T := ⟨S_, .f32⟩) main_call1_cst) (TRef.of (T := ⟨S_, .i32⟩) main_call1_c) (TRef.of (T := ⟨S8x20000, .i32⟩) main_v85) (fun x y u v j => (Host.argReduce reducer_argmax_f32_i32 x y u v reducesTo_S8x20000x100_S8x20000_d2 h_S_ j).2) ]

/-- The operations that compute the states. -/
abbrev opsBestC : List (HloOp τ sig (Elt F)) :=
  [ nullary main_cst_4 (constant S_ .f32 0x3F000000#32),
    unary main_cst_4 main_v86 (broadcastInDim S8x20000 ![] bcast_S_S8x20000 : Arr F S_ .f32 → Arr F S8x20000 .f32),
    binary main_v84 main_v86 main_v87 (cmpf .oge : Arr F S8x20000 .f32 → Arr F S8x20000 .f32 → Arr F S8x20000 .i1),
    nullary main_cst_5 (constant S_ .f32 0x3ECCCCCD#32),
    unary main_cst_5 main_v88 (broadcastInDim S8x20000 ![] bcast_S_S8x20000 : Arr F S_ .f32 → Arr F S8x20000 .f32),
    binary main_v84 main_v88 main_v89 (cmpf .ogt : Arr F S8x20000 .f32 → Arr F S8x20000 .f32 → Arr F S8x20000 .i1),
    unary main_v87 main_v90 (noti : Arr F S8x20000 .i1 → Arr F S8x20000 .i1),
    binary main_v89 main_v90 main_v91 (andi : Arr F S8x20000 .i1 → Arr F S8x20000 .i1 → Arr F S8x20000 .i1),
    unary main_v87 main_v92 (uitofp .f32 : Arr F S8x20000 .i1 → Arr F S8x20000 .f32),
    unary main_v91 main_v93 (uitofp .f32 : Arr F S8x20000 .i1 → Arr F S8x20000 .f32),
    binary main_v92 main_v93 main_v94 (subf : Arr F S8x20000 .f32 → Arr F S8x20000 .f32 → Arr F S8x20000 .f32) ]

/-- The three stretches make up `opsBest`. -/
theorem opsBest_split : (opsBest : List (HloOp τ sig (Elt F))) = opsBestA ++ (opsBestB ++ opsBestC) := rfl

end

/-- The word of minus infinity. -/
theorem bot_word : Ideal.ofBits .f32 0xFF800000#32 = ⊥ := by simp [Ideal.ofBits, Ideal.ieee]

/-- An integer comparison's bit, converted, is 1 or 0. -/
theorem uitofp_eq_bit (a b : BitVec 32) : FloatOps.uitofp (F := Ideal) .f32 (IntOp.cmpi .eq a b) = if a = b then (1 : EReal) else 0 := by
  show (((IntOp.cmpi .eq a b).toNat : ℝ) : EReal) = _
  by_cases h : a = b <;> simp [h, IntOp.cmpi]

/-- The two bits of a state, subtracted. -/
theorem state_bits (v : EReal) :
    FloatOps.uitofp (F := Ideal) .f32 (BitVec.ofBool (decide (half ≤ v)))
      - FloatOps.uitofp (F := Ideal) .f32 (IntOp.andi (BitVec.ofBool (decide (fourTenths < v))) (~~~BitVec.ofBool (decide (half ≤ v)))) = state v := by
  have e : IntOp.andi (BitVec.ofBool (decide (fourTenths < v))) (~~~BitVec.ofBool (decide (half ≤ v)))
      = BitVec.ofBool (decide (fourTenths < v ∧ ¬ half ≤ v)) := by
    by_cases h : half ≤ v <;> by_cases h' : fourTenths < v <;> simp [h, h', IntOp.andi]
  rw [e, uitofp_bit, uitofp_bit]
  exact state_eq v

/-- A row number in range is not wrapped. -/
theorem wrap_row : ∀ r0 : Fin 100, Scalar.select (IntOp.cmpi CmpIPredicate.slt (BitVec.ofNat 32 r0.val) 0#32)
    (IntOp.addi (BitVec.ofNat 32 r0.val) 100#32) (BitVec.ofNat 32 r0.val) = BitVec.ofNat 32 r0.val := by decide

/-- A row number in range passes the range check. -/
theorem in_range (r0 : Fin 100) : Finset.fold IntOp.andi 1#1 (fun _ : Fin 1 =>
    IntOp.andi (IntOp.cmpi CmpIPredicate.sge (BitVec.ofNat 32 r0.val) 0#32) (IntOp.cmpi CmpIPredicate.sle (BitVec.ofNat 32 r0.val) 99#32))
    Finset.univ = 1#1 := by
  revert r0; decide

/-- The boxes' corners. -/
theorem lab_v0 (V : Valuation τ sig (Elt Ideal)) (b : Fin 8) (r : Fin 100) (k : Fin 4) :
    g_v0 (after opsLab V) (ix3 b r k) = g_arg0 V (ix3 b r (Fin.castLE (by decide) k)) := by
  simp only [opsLab, g_arg0, g_v0, TRef.nullary, TRef.unary, TRef.binary, TRef.ternary, TRef.quaternary, TRef.toBuf, TRef.ofBuf, TRef.of, cast_eq]
  after_results_simp
  pointwise []
  rfl

/-- The boxes' labels, as integers between 0 and 79. -/
theorem lab_v4 (V : Valuation τ sig (Elt Ideal)) (b : Fin 8) (r : Fin 100) :
    g_v4 (after opsLab V) (ix2 b r) = Scalar.minsi 79#32 (Scalar.maxsi 0#32 (Ideal.fptosi 32 (g_arg0 V (ix3 b r 4)))) := by
  simp only [opsLab, g_arg0, g_v4, TRef.nullary, TRef.unary, TRef.binary, TRef.ternary, TRef.quaternary, TRef.toBuf, TRef.ofBuf, TRef.of, cast_eq]
  after_results_simp
  pointwise []
  rfl

/-- The boxes' areas. -/
theorem area_v15 (V : Valuation τ sig (Elt Ideal)) (b : Fin 8) (r : Fin 100) :
    g_v15 (after opsArea V) (ix2 b r) = (g_v0 V (ix3 b r 2) - g_v0 V (ix3 b r 0)) * (g_v0 V (ix3 b r 3) - g_v0 V (ix3 b r 1)) := by
  simp only [opsArea, g_v0, g_v15, TRef.nullary, TRef.unary, TRef.binary, TRef.ternary, TRef.quaternary, TRef.toBuf, TRef.ofBuf, TRef.of, cast_eq]
  after_results_simp
  pointwise []

/-- The anchors' areas. -/
theorem area_v26 (V : Valuation τ sig (Elt Ideal)) (n : Fin 20000) :
    g_v26 (after opsArea V) (ix1 n) = (g_arg1 V (ix2 n 2) - g_arg1 V (ix2 n 0)) * (g_arg1 V (ix2 n 3) - g_arg1 V (ix2 n 1)) := by
  simp only [opsArea, g_arg1, g_v26, TRef.nullary, TRef.unary, TRef.binary, TRef.ternary, TRef.quaternary, TRef.toBuf, TRef.ofBuf, TRef.of, cast_eq]
  after_results_simp
  pointwise []

/-- The overlaps along x, before they are made nonnegative. -/
theorem ovX_v47 (V : Valuation τ sig (Elt Ideal)) (b : Fin 8) (n : Fin 20000) (r : Fin 100) :
    g_v47 (after opsOvX V) (ix3 b n r) = min (g_arg1 V (ix2 n 2)) (g_v0 V (ix3 b r 2)) - max (g_arg1 V (ix2 n 0)) (g_v0 V (ix3 b r 0)) := by
  simp only [opsOvX, g_arg1, g_v0, g_v47, TRef.nullary, TRef.unary, TRef.binary, TRef.ternary, TRef.quaternary, TRef.toBuf, TRef.ofBuf, TRef.of, cast_eq]
  after_results_simp
  pointwise []

/-- The smaller lower ends along y. -/
theorem minY_v57 (V : Valuation τ sig (Elt Ideal)) (b : Fin 8) (n : Fin 20000) (r : Fin 100) :
    g_v57 (after opsMinY V) (ix3 b n r) = min (g_arg1 V (ix2 n 3)) (g_v0 V (ix3 b r 3)) := by
  simp only [opsMinY, g_arg1, g_v0, g_v57, TRef.nullary, TRef.unary, TRef.binary, TRef.ternary, TRef.quaternary, TRef.toBuf, TRef.ofBuf, TRef.of, cast_eq]
  after_results_simp
  pointwise []

/-- The intersections. -/
theorem inter_v73 (V : Valuation τ sig (Elt Ideal)) (b : Fin 8) (n : Fin 20000) (r : Fin 100) :
    g_v73 (after opsInter V) (ix3 b n r) = max (g_v47 V (ix3 b n r)) (Ideal.ofBits .f32 0#32) * max (g_v57 V (ix3 b n r) - max (g_arg1 V (ix2 n 1)) (g_v0 V (ix3 b r 1))) (Ideal.ofBits .f32 0#32) := by
  simp only [opsInter, g_arg1, g_v0, g_v47, g_v57, g_v73, TRef.nullary, TRef.unary, TRef.binary, TRef.ternary, TRef.quaternary, TRef.toBuf, TRef.ofBuf, TRef.of, cast_eq]
  after_results_simp
  pointwise []

/-- The overlap ratios. -/
theorem iou_v83 (V : Valuation τ sig (Elt Ideal)) (b : Fin 8) (n : Fin 20000) (r : Fin 100) :
    g_v83 (after opsIou V) (ix3 b n r) = Ideal.div (g_v73 V (ix3 b n r)) (max (g_v26 V (ix1 n) + g_v15 V (ix2 b r) - g_v73 V (ix3 b n r)) (Ideal.ofBits .f32 0x322BCC77#32)) := by
  simp only [opsIou, g_v15, g_v26, g_v73, g_v83, TRef.nullary, TRef.unary, TRef.binary, TRef.ternary, TRef.quaternary, TRef.toBuf, TRef.ofBuf, TRef.of, cast_eq]
  after_results_simp
  pointwise []

/-- Each anchor's largest ratio. -/
theorem bestA_v84 (V : Valuation τ sig (Elt Ideal)) (b : Fin 8) (n : Fin 20000) :
    g_v84 (after opsBestA V) (ix2 b n) = Finset.univ.fold max ⊥ (fun r : Fin 100 => g_v83 V (ix3 b n r)) := by
  simp only [opsBestA, g_v83, g_v84, TRef.nullary, TRef.unary, TRef.binary, TRef.ternary, TRef.quaternary, TRef.toBuf, TRef.ofBuf, TRef.of, cast_eq]
  after_results_simp
  pointwise []
  rw [bot_word]

/-- The ratios stay. -/
theorem bestA_v83 (V : Valuation τ sig (Elt Ideal))  :
    g_v83 (after opsBestA V) = g_v83 V := by
  simp only [opsBestA, g_v83, TRef.nullary, TRef.unary, TRef.binary, TRef.ternary, TRef.quaternary, TRef.toBuf, TRef.ofBuf, TRef.of, cast_eq]
  after_results_simp

/-- The largest ratios stay. -/
theorem bestB_v84 (V : Valuation τ sig (Elt Ideal))  :
    g_v84 (after opsBestB V) = g_v84 V := by
  simp only [opsBestB, g_v84, TRef.nullary, TRef.unary, TRef.binary, TRef.ternary, TRef.quaternary, TRef.toBuf, TRef.ofBuf, TRef.of, cast_eq]
  after_results_simp

/-- Each anchor's first box of largest ratio. -/
theorem bestB_v85 (V : Valuation τ sig (Elt Ideal)) (b : Fin 8) (n : Fin 20000) (r0 : Fin 100) (h : IsFirst (fun r : Fin 100 => g_v83 V (ix3 b n r)) r0) :
    g_v85 (after opsBestB V) (ix2 b n) = BitVec.ofNat 32 r0.val := by
  simp only [opsBestB, g_v85, TRef.nullary, TRef.unary, TRef.binary, TRef.ternary, TRef.quaternary, TRef.toBuf, TRef.ofBuf, TRef.of, cast_eq]
  after_results_simp
  exact argmax_apply _ _ _ _ b n r0 (fun r => rfl) bot_word rfl h

/-- The boxes' numbers stay. -/
theorem bestC_v85 (V : Valuation τ sig (Elt Ideal))  :
    g_v85 (after opsBestC V) = g_v85 V := by
  simp only [opsBestC, g_v85, TRef.nullary, TRef.unary, TRef.binary, TRef.ternary, TRef.quaternary, TRef.toBuf, TRef.ofBuf, TRef.of, cast_eq]
  after_results_simp

/-- Whether the largest ratio is at least one half. -/
theorem bestC_v87 (V : Valuation τ sig (Elt Ideal)) (b : Fin 8) (n : Fin 20000) :
    g_v87 (after opsBestC V) (ix2 b n) = BitVec.ofBool (decide (half ≤ g_v84 V (ix2 b n))) := by
  simp only [opsBestC, g_v84, g_v87, TRef.nullary, TRef.unary, TRef.binary, TRef.ternary, TRef.quaternary, TRef.toBuf, TRef.ofBuf, TRef.of, cast_eq]
  after_results_simp
  pointwise []

/-- The states. -/
theorem bestC_v94 (V : Valuation τ sig (Elt Ideal)) (b : Fin 8) (n : Fin 20000) :
    g_v94 (after opsBestC V) (ix2 b n) = state (g_v84 V (ix2 b n)) := by
  simp only [opsBestC, g_v84, g_v94, TRef.nullary, TRef.unary, TRef.binary, TRef.ternary, TRef.quaternary, TRef.toBuf, TRef.ofBuf, TRef.of, cast_eq]
  after_results_simp
  pointwise []
  exact state_bits _

/-- The class targets. -/
theorem cls_v100 (V : Valuation τ sig (Elt Ideal)) (b : Fin 8) (n : Fin 20000) (k : Fin 80) :
    g_v100 (after opsCls V) (ix3 b n k) = (if g_v95 V (ix2 b n) = BitVec.ofNat 32 k.val then 1 else 0) * FloatOps.uitofp (F := Ideal) .f32 (g_v87 V (ix2 b n)) := by
  simp only [opsCls, g_v100, g_v87, g_v95, TRef.nullary, TRef.unary, TRef.binary, TRef.ternary, TRef.quaternary, TRef.toBuf, TRef.ofBuf, TRef.of, cast_eq]
  after_results_simp
  pointwise []
  rw [uitofp_eq_bit]

/-- The label of the box of largest ratio. -/
theorem look_v95 (V : Valuation τ sig (Elt Ideal)) (b : Fin 8) (n : Fin 20000) (r0 : Fin 100) (h : g_v85 V (ix2 b n) = BitVec.ofNat 32 r0.val) :
    g_v95 (after opsLook V) (ix2 b n) = g_v4 V (ix2 b r0) := by
  simp only [opsLook, g_v4, g_v95, TRef.nullary, TRef.unary, TRef.binary, TRef.ternary, TRef.quaternary, TRef.toBuf, TRef.ofBuf, TRef.of, cast_eq]
  after_results_simp
  pointwise []
  have hw : Scalar.select (IntOp.cmpi CmpIPredicate.slt (V (Proc.tc.devRef main_v85) (ix2 b n)) 0#32)
      (IntOp.addi (V (Proc.tc.devRef main_v85) (ix2 b n)) 100#32) (V (Proc.tc.devRef main_v85) (ix2 b n)) = BitVec.ofNat 32 r0.val := by
    rw [show V (Proc.tc.devRef main_v85) (ix2 b n) = BitVec.ofNat 32 r0.val from h]; exact wrap_row r0
  rw [hw, in_range, gather_lab _ _ b n r0 (h := by pointwise []; exact hw)]
  rfl

/-- The corners of the box of largest ratio. -/
theorem box_v101 (V : Valuation τ sig (Elt Ideal)) (b : Fin 8) (n : Fin 20000) (r0 : Fin 100) (k : Fin 4) (h : g_v85 V (ix2 b n) = BitVec.ofNat 32 r0.val) :
    g_v101 (after opsBox V) (ix3 b n k) = g_v0 V (ix3 b r0 k) := by
  simp only [opsBox, g_v0, g_v101, TRef.nullary, TRef.unary, TRef.binary, TRef.ternary, TRef.quaternary, TRef.toBuf, TRef.ofBuf, TRef.of, cast_eq]
  after_results_simp
  pointwise []
  have hw : Scalar.select (IntOp.cmpi CmpIPredicate.slt (V (Proc.tc.devRef main_v85) (ix2 b n)) 0#32)
      (IntOp.addi (V (Proc.tc.devRef main_v85) (ix2 b n)) 100#32) (V (Proc.tc.devRef main_v85) (ix2 b n)) = BitVec.ofNat 32 r0.val := by
    rw [show V (Proc.tc.devRef main_v85) (ix2 b n) = BitVec.ofNat 32 r0.val from h]; exact wrap_row r0
  rw [hw, in_range, gather_box _ _ b n r0 k (h := by pointwise []; exact hw)]
  rfl

/-- The anchors' widths. -/
theorem size_v106 (V : Valuation τ sig (Elt Ideal)) (n : Fin 20000) :
    g_v106 (after opsSize V) (ix1 n) = g_arg1 V (ix2 n 2) - g_arg1 V (ix2 n 0) := by
  simp only [opsSize, g_arg1, g_v106, TRef.nullary, TRef.unary, TRef.binary, TRef.ternary, TRef.quaternary, TRef.toBuf, TRef.ofBuf, TRef.of, cast_eq]
  after_results_simp
  pointwise []

/-- The anchors' heights. -/
theorem size_v111 (V : Valuation τ sig (Elt Ideal)) (n : Fin 20000) :
    g_v111 (after opsSize V) (ix1 n) = g_arg1 V (ix2 n 3) - g_arg1 V (ix2 n 1) := by
  simp only [opsSize, g_arg1, g_v111, TRef.nullary, TRef.unary, TRef.binary, TRef.ternary, TRef.quaternary, TRef.toBuf, TRef.ofBuf, TRef.of, cast_eq]
  after_results_simp
  pointwise []

/-- Corner 0's difference over the anchor's size. -/
theorem diff_v152 (V : Valuation τ sig (Elt Ideal)) (b : Fin 8) (n : Fin 20000) :
    g_v152 (after opsDiff V) (ix3 b n 0) = Ideal.div (g_v101 V (ix3 b n 0) - g_arg1 V (ix2 n 0)) (g_v106 V (ix1 n)) := by
  simp only [opsDiff, g_arg1, g_v101, g_v106, g_v152, TRef.nullary, TRef.unary, TRef.binary, TRef.ternary, TRef.quaternary, TRef.toBuf, TRef.ofBuf, TRef.of, cast_eq]
  after_results_simp
  pointwise []

/-- Corner 1's difference over the anchor's size. -/
theorem diff_v153 (V : Valuation τ sig (Elt Ideal)) (b : Fin 8) (n : Fin 20000) :
    g_v153 (after opsDiff V) (ix3 b n 0) = Ideal.div (g_v101 V (ix3 b n 1) - g_arg1 V (ix2 n 1)) (g_v111 V (ix1 n)) := by
  simp only [opsDiff, g_arg1, g_v101, g_v111, g_v153, TRef.nullary, TRef.unary, TRef.binary, TRef.ternary, TRef.quaternary, TRef.toBuf, TRef.ofBuf, TRef.of, cast_eq]
  after_results_simp
  pointwise []

/-- Corner 2's difference over the anchor's size. -/
theorem diff_v154 (V : Valuation τ sig (Elt Ideal)) (b : Fin 8) (n : Fin 20000) :
    g_v154 (after opsDiff V) (ix3 b n 0) = Ideal.div (g_v101 V (ix3 b n 2) - g_arg1 V (ix2 n 2)) (g_v106 V (ix1 n)) := by
  simp only [opsDiff, g_arg1, g_v101, g_v106, g_v154, TRef.nullary, TRef.unary, TRef.binary, TRef.ternary, TRef.quaternary, TRef.toBuf, TRef.ofBuf, TRef.of, cast_eq]
  after_results_simp
  pointwise []

/-- Corner 3's difference over the anchor's size. -/
theorem diff_v155 (V : Valuation τ sig (Elt Ideal)) (b : Fin 8) (n : Fin 20000) :
    g_v155 (after opsDiff V) (ix3 b n 0) = Ideal.div (g_v101 V (ix3 b n 3) - g_arg1 V (ix2 n 3)) (g_v111 V (ix1 n)) := by
  simp only [opsDiff, g_arg1, g_v101, g_v111, g_v155, TRef.nullary, TRef.unary, TRef.binary, TRef.ternary, TRef.quaternary, TRef.toBuf, TRef.ofBuf, TRef.of, cast_eq]
  after_results_simp
  pointwise []

/-- The regression targets. -/
theorem reg_v160 (V : Valuation τ sig (Elt Ideal)) (b : Fin 8) (n : Fin 20000) (k : Fin 4) :
    g_v160 (after opsReg V) (ix3 b n k) = Ideal.div (joinF (F := Ideal) (g_v152 V) (g_v153 V) (g_v154 V) (g_v155 V) (ix3 b n k) - Ideal.ofBits .f32 0#32) (Ideal.ofBits .f32 0x3E4CCCCD#32) := by
  simp only [opsReg, g_v152, g_v153, g_v154, g_v155, g_v160, TRef.nullary, TRef.unary, TRef.binary, TRef.ternary, TRef.quaternary, TRef.toBuf, TRef.ofBuf, TRef.of, cast_eq]
  after_results_simp
  pointwise []

end Cert.ReferenceIdeal.Hand

end
-- ==== Proof.RefOut.lean ====
/-
  The reference's three results, read at an index from the arguments, in terms of the first box of largest ratio.
-/
module

public import proofs.«01_k».proof.Proof.RefVal

@[expose] public section

set_option maxRecDepth 16384

noncomputable section

namespace Cert.ReferenceIdeal.Hand

open Cert.ReferenceIdeal Cert.ReferenceIdeal.Gen Cert.Match
open Idealize.ShloMosaic Idealize.ShloMosaic.TcCoe Idealize.ShloMosaic.StableHlo
open Idealize.SL Idealize.SL.Sem

/-- Box `r` of batch `b`: its four corners. -/
def box (x : S8x100x5.Idx → EReal) (b : Fin 8) (r : Fin 100) : Fin 4 → EReal := fun k => x (ix3 b r (Fin.castLE (by decide) k))

/-- Anchor `n`: its four corners. -/
def anch (y : S20000x4.Idx → EReal) (n : Fin 20000) : Fin 4 → EReal := fun k => y (ix2 n k)

/-- The stretch `opsBest` leaves the number of the first box of largest ratio. -/
theorem best_v85 (V : Valuation τ sig (Elt Ideal)) (b : Fin 8) (n : Fin 20000) (r0 : Fin 100)
    (h : IsFirst (fun r : Fin 100 => g_v83 V (ix3 b n r)) r0) : g_v85 (after opsBest V) (ix2 b n) = BitVec.ofNat 32 r0.val := by
  rw [opsBest_split, after_append, after_append, bestC_v85]
  exact bestB_v85 _ b n r0 (by rw [bestA_v83]; exact h)

/-- The largest ratio after the first two stretches of `opsBest`. -/
theorem bestAB_v84 (V : Valuation τ sig (Elt Ideal)) (b : Fin 8) (n : Fin 20000) (r0 : Fin 100)
    (h : IsFirst (fun r : Fin 100 => g_v83 V (ix3 b n r)) r0) :
    g_v84 (after opsBestB (after opsBestA V)) (ix2 b n) = g_v83 V (ix3 b n r0) := by
  rw [bestB_v84, bestA_v84]
  exact fold_max_of_isFirst h

/-- The stretch `opsBest` leaves whether the largest ratio is at least one half. -/
theorem best_v87 (V : Valuation τ sig (Elt Ideal)) (b : Fin 8) (n : Fin 20000) (r0 : Fin 100)
    (h : IsFirst (fun r : Fin 100 => g_v83 V (ix3 b n r)) r0) :
    FloatOps.uitofp (F := Ideal) .f32 (g_v87 (after opsBest V) (ix2 b n)) = pos (g_v83 V (ix3 b n r0)) := by
  rw [opsBest_split, after_append, after_append, bestC_v87, bestAB_v84 V b n r0 h, uitofp_bit]
  rfl

/-- The stretch `opsBest` leaves the states. -/
theorem best_v94 (V : Valuation τ sig (Elt Ideal)) (b : Fin 8) (n : Fin 20000) (r0 : Fin 100)
    (h : IsFirst (fun r : Fin 100 => g_v83 V (ix3 b n r)) r0) :
    g_v94 (after opsBest V) (ix2 b n) = state (g_v83 V (ix3 b n r0)) := by
  rw [opsBest_split, after_append, after_append, bestC_v94, bestAB_v84 V b n r0 h]

/-- The zero word. -/
theorem zero_word : Ideal.ofBits .f32 0#32 = 0 := by simp [Ideal.ofBits, Ideal.ieee]

/-- The four joined columns, read at a corner. -/
theorem join_apply (u : Fin 4 → (S8x20000x1.Idx → EReal)) (b : Fin 8) (n : Fin 20000) (k : Fin 4) :
    joinF (F := Ideal) (u 0) (u 1) (u 2) (u 3) (ix3 b n k) = u k (ix3 b n 0) := by
  unfold joinF
  fin_cases k <;> (pointwise [])

/-- The reference's three results at an anchor, when `r0` is the first box of largest ratio. -/
theorem results (V : Valuation τ sig (Elt Ideal)) (b : Fin 8) (n : Fin 20000) (r0 : Fin 100)
    (h : IsFirst (fun r : Fin 100 => iouG (anch (g_arg1 V) n) (box (g_arg0 V) b r)) r0) :
    (∀ k : Fin 80, g_v100 (after ops V) (ix3 b n k)
      = (if Scalar.minsi 79#32 (Scalar.maxsi 0#32 (Ideal.fptosi 32 (g_arg0 V (ix3 b r0 4)))) = BitVec.ofNat 32 k.val then 1 else 0)
        * pos (iouG (anch (g_arg1 V) n) (box (g_arg0 V) b r0)))
    ∧ (∀ k : Fin 4, g_v160 (after ops V) (ix3 b n k)
      = scaled (box (g_arg0 V) b r0 k) (anch (g_arg1 V) n k) (extent (anch (g_arg1 V) n) k))
    ∧ g_v94 (after ops V) (ix2 b n) = state (iouG (anch (g_arg1 V) n) (box (g_arg0 V) b r0)) := by
  rw [show (ops : List (HloOp τ sig (Elt Ideal))) = opsLab ++ (opsArea ++ (opsOvX ++ (opsMinY ++ (opsInter ++ (opsIou ++ (opsBest ++ (opsLook ++ (opsCls ++ (opsBox ++ (opsSize ++ (opsDiff ++ (opsReg)))))))))))) from rfl,
    after_append, after_append, after_append, after_append, after_append, after_append, after_append, after_append, after_append, after_append, after_append, after_append]
  obtain ⟨V1, e1⟩ : ∃ W, W = after opsLab V := ⟨_, rfl⟩
  have k1_arg1 : g_arg1 V1 = g_arg1 V := by rw [e1]; exact keepLab V main_arg1 (by decide)
  have lab_v0' := lab_v0 V
  rw [← e1] at lab_v0'
  have lab_v4' := lab_v4 V
  rw [← e1] at lab_v4'
  rw [← e1]
  obtain ⟨V2, e2⟩ : ∃ W, W = after opsArea V1 := ⟨_, rfl⟩
  have k2_v0 : g_v0 V2 = g_v0 V1 := by rw [e2]; exact keepArea V1 main_v0 (by decide)
  have k2_v4 : g_v4 V2 = g_v4 V1 := by rw [e2]; exact keepArea V1 main_v4 (by decide)
  have k2_arg1 : g_arg1 V2 = g_arg1 V1 := by rw [e2]; exact keepArea V1 main_arg1 (by decide)
  have area_v15' := area_v15 V1
  rw [← e2] at area_v15'
  have area_v26' := area_v26 V1
  rw [← e2] at area_v26'
  rw [← e2]
  obtain ⟨V3, e3⟩ : ∃ W, W = after opsOvX V2 := ⟨_, rfl⟩
  have k3_arg1 : g_arg1 V3 = g_arg1 V2 := by rw [e3]; exact keepOvX V2 main_arg1 (by decide)
  have k3_v0 : g_v0 V3 = g_v0 V2 := by rw [e3]; exact keepOvX V2 main_v0 (by decide)
  have k3_v4 : g_v4 V3 = g_v4 V2 := by rw [e3]; exact keepOvX V2 main_v4 (by decide)
  have k3_v15 : g_v15 V3 = g_v15 V2 := by rw [e3]; exact keepOvX V2 main_v15 (by decide)
  have k3_v26 : g_v26 V3 = g_v26 V2 := by rw [e3]; exact keepOvX V2 main_v26 (by decide)
  have ovX_v47' := ovX_v47 V2
  rw [← e3] at ovX_v47'
  rw [← e3]
  obtain ⟨V4, e4⟩ : ∃ W, W = after opsMinY V3 := ⟨_, rfl⟩
  have k4_arg1 : g_arg1 V4 = g_arg1 V3 := by rw [e4]; exact keepMinY V3 main_arg1 (by decide)
  have k4_v0 : g_v0 V4 = g_v0 V3 := by rw [e4]; exact keepMinY V3 main_v0 (by decide)
  have k4_v4 : g_v4 V4 = g_v4 V3 := by rw [e4]; exact keepMinY V3 main_v4 (by decide)
  have k4_v15 : g_v15 V4 = g_v15 V3 := by rw [e4]; exact keepMinY V3 main_v15 (by decide)
  have k4_v26 : g_v26 V4 = g_v26 V3 := by rw [e4]; exact keepMinY V3 main_v26 (by decide)
  have k4_v47 : g_v47 V4 = g_v47 V3 := by rw [e4]; exact keepMinY V3 main_v47 (by decide)
  have minY_v57' := minY_v57 V3
  rw [← e4] at minY_v57'
  rw [← e4]
  obtain ⟨V5, e5⟩ : ∃ W, W = after opsInter V4 := ⟨_, rfl⟩
  have k5_arg1 : g_arg1 V5 = g_arg1 V4 := by rw [e5]; exact keepInter V4 main_arg1 (by decide)
  have k5_v0 : g_v0 V5 = g_v0 V4 := by rw [e5]; exact keepInter V4 main_v0 (by decide)
  have k5_v4 : g_v4 V5 = g_v4 V4 := by rw [e5]; exact keepInter V4 main_v4 (by decide)
  have k5_v15 : g_v15 V5 = g_v15 V4 := by rw [e5]; exact keepInter V4 main_v15 (by decide)
  have k5_v26 : g_v26 V5 = g_v26 V4 := by rw [e5]; exact keepInter V4 main_v26 (by decide)
  have inter_v73' := inter_v73 V4
  rw [← e5] at inter_v73'
  rw [← e5]
  obtain ⟨V6, e6⟩ : ∃ W, W = after opsIou V5 := ⟨_, rfl⟩
  have k6_arg1 : g_arg1 V6 = g_arg1 V5 := by rw [e6]; exact keepIou V5 main_arg1 (by decide)
  have k6_v0 : g_v0 V6 = g_v0 V5 := by rw [e6]; exact keepIou V5 main_v0 (by decide)
  have k6_v4 : g_v4 V6 = g_v4 V5 := by rw [e6]; exact keepIou V5 main_v4 (by decide)
  have iou_v83' := iou_v83 V5
  rw [← e6] at iou_v83'
  rw [← e6]
  obtain ⟨V7, e7⟩ : ∃ W, W = after opsBest V6 := ⟨_, rfl⟩
  have k7_arg1 : g_arg1 V7 = g_arg1 V6 := by rw [e7]; exact keepBest V6 main_arg1 (by decide)
  have k7_v0 : g_v0 V7 = g_v0 V6 := by rw [e7]; exact keepBest V6 main_v0 (by decide)
  have k7_v4 : g_v4 V7 = g_v4 V6 := by rw [e7]; exact keepBest V6 main_v4 (by decide)
  have hv : ∀ r : Fin 100, g_v83 V6 (ix3 b n r) = iouG (anch (g_arg1 V) n) (box (g_arg0 V) b r) := fun r => by
    rw [iou_v83', inter_v73', k5_v26, k4_v26, k3_v26, area_v26', k5_v15, k4_v15, k3_v15, area_v15', k4_v47, ovX_v47', minY_v57']
    simp only [k4_arg1, k4_v0, k3_arg1, k3_v0, k2_arg1, k2_v0, k1_arg1, lab_v0', zero_word]
    rfl
  have h6 : IsFirst (fun r : Fin 100 => g_v83 V6 (ix3 b n r)) r0 := by
    simpa only [hv] using h
  have best_v85' := best_v85 V6 b n r0 h6
  have best_v87' := best_v87 V6 b n r0 h6
  have best_v94' := best_v94 V6 b n r0 h6
  rw [← e7] at best_v85' best_v87' best_v94'
  rw [hv] at best_v87' best_v94'
  rw [← e7]
  obtain ⟨V8, e8⟩ : ∃ W, W = after opsLook V7 := ⟨_, rfl⟩
  have k8_arg1 : g_arg1 V8 = g_arg1 V7 := by rw [e8]; exact keepLook V7 main_arg1 (by decide)
  have k8_v0 : g_v0 V8 = g_v0 V7 := by rw [e8]; exact keepLook V7 main_v0 (by decide)
  have k8_v85 : g_v85 V8 = g_v85 V7 := by rw [e8]; exact keepLook V7 main_v85 (by decide)
  have k8_v87 : g_v87 V8 = g_v87 V7 := by rw [e8]; exact keepLook V7 main_v87 (by decide)
  have k8_v94 : g_v94 V8 = g_v94 V7 := by rw [e8]; exact keepLook V7 main_v94 (by decide)
  have look_v95' := look_v95 V7
  rw [← e8] at look_v95'
  rw [← e8]
  obtain ⟨V9, e9⟩ : ∃ W, W = after opsCls V8 := ⟨_, rfl⟩
  have k9_arg1 : g_arg1 V9 = g_arg1 V8 := by rw [e9]; exact keepCls V8 main_arg1 (by decide)
  have k9_v0 : g_v0 V9 = g_v0 V8 := by rw [e9]; exact keepCls V8 main_v0 (by decide)
  have k9_v85 : g_v85 V9 = g_v85 V8 := by rw [e9]; exact keepCls V8 main_v85 (by decide)
  have k9_v94 : g_v94 V9 = g_v94 V8 := by rw [e9]; exact keepCls V8 main_v94 (by decide)
  have cls_v100' := cls_v100 V8
  rw [← e9] at cls_v100'
  rw [← e9]
  obtain ⟨V10, e10⟩ : ∃ W, W = after opsBox V9 := ⟨_, rfl⟩
  have k10_arg1 : g_arg1 V10 = g_arg1 V9 := by rw [e10]; exact keepBox V9 main_arg1 (by decide)
  have k10_v94 : g_v94 V10 = g_v94 V9 := by rw [e10]; exact keepBox V9 main_v94 (by decide)
  have k10_v100 : g_v100 V10 = g_v100 V9 := by rw [e10]; exact keepBox V9 main_v100 (by decide)
  have box_v101' := box_v101 V9
  rw [← e10] at box_v101'
  rw [← e10]
  obtain ⟨V11, e11⟩ : ∃ W, W = after opsSize V10 := ⟨_, rfl⟩
  have k11_v101 : g_v101 V11 = g_v101 V10 := by rw [e11]; exact keepSize V10 main_v101 (by decide)
  have k11_arg1 : g_arg1 V11 = g_arg1 V10 := by rw [e11]; exact keepSize V10 main_arg1 (by decide)
  have k11_v94 : g_v94 V11 = g_v94 V10 := by rw [e11]; exact keepSize V10 main_v94 (by decide)
  have k11_v100 : g_v100 V11 = g_v100 V10 := by rw [e11]; exact keepSize V10 main_v100 (by decide)
  have size_v106' := size_v106 V10
  rw [← e11] at size_v106'
  have size_v111' := size_v111 V10
  rw [← e11] at size_v111'
  rw [← e11]
  obtain ⟨V12, e12⟩ : ∃ W, W = after opsDiff V11 := ⟨_, rfl⟩
  have k12_v94 : g_v94 V12 = g_v94 V11 := by rw [e12]; exact keepDiff V11 main_v94 (by decide)
  have k12_v100 : g_v100 V12 = g_v100 V11 := by rw [e12]; exact keepDiff V11 main_v100 (by decide)
  have diff_v152' := diff_v152 V11
  rw [← e12] at diff_v152'
  have diff_v153' := diff_v153 V11
  rw [← e12] at diff_v153'
  have diff_v154' := diff_v154 V11
  rw [← e12] at diff_v154'
  have diff_v155' := diff_v155 V11
  rw [← e12] at diff_v155'
  rw [← e12]
  obtain ⟨V13, e13⟩ : ∃ W, W = after opsReg V12 := ⟨_, rfl⟩
  have k13_v94 : g_v94 V13 = g_v94 V12 := by rw [e13]; exact keepReg V12 main_v94 (by decide)
  have k13_v100 : g_v100 V13 = g_v100 V12 := by rw [e13]; exact keepReg V12 main_v100 (by decide)
  have reg_v160' := reg_v160 V12
  rw [← e13] at reg_v160'
  rw [← e13]
  have hb : ∀ k : Fin 4, g_v101 V10 (ix3 b n k) = box (g_arg0 V) b r0 k := fun k => by
    rw [box_v101' b n r0 k (by rw [k9_v85, k8_v85]; exact best_v85'), k9_v0, k8_v0, k7_v0, k6_v0, k5_v0, k4_v0, k3_v0, k2_v0, lab_v0']
    rfl
  have ha : ∀ k : Fin 4, g_arg1 V11 (ix2 n k) = anch (g_arg1 V) n k := fun k => by
    rw [k11_arg1, k10_arg1, k9_arg1, k8_arg1, k7_arg1, k6_arg1, k5_arg1, k4_arg1, k3_arg1, k2_arg1, k1_arg1]
    rfl
  have ha' : ∀ k : Fin 4, g_arg1 V10 (ix2 n k) = anch (g_arg1 V) n k := fun k => by
    rw [← k11_arg1]; exact ha k
  refine ⟨fun k => ?_, fun k => ?_, ?_⟩
  · rw [k13_v100, k12_v100, k11_v100, k10_v100, cls_v100', k8_v87, best_v87',
      look_v95' b n r0 best_v85', k7_v4, k6_v4, k5_v4, k4_v4, k3_v4, k2_v4, lab_v4']
  · rw [reg_v160', zero_word, sub_zero]
    refine congrArg (fun z => Ideal.div z _) ((join_apply ![g_v152 V12, g_v153 V12, g_v154 V12, g_v155 V12] b n k).trans ?_)
    fin_cases k
    · exact (diff_v152' b n).trans (by rw [k11_v101, hb, ha, size_v106', ha', ha']; rfl)
    · exact (diff_v153' b n).trans (by rw [k11_v101, hb, ha, size_v111', ha', ha']; rfl)
    · exact (diff_v154' b n).trans (by rw [k11_v101, hb, ha, size_v106', ha', ha']; rfl)
    · exact (diff_v155' b n).trans (by rw [k11_v101, hb, ha, size_v111', ha', ha']; rfl)
  · rw [k13_v94, k12_v94, k11_v94, k10_v94, k9_v94, k8_v94, best_v94']

end Cert.ReferenceIdeal.Hand

end
-- ==== Proof.Bridge.lean ====
/-
  The arithmetic that joins the kernel's matching to the reference's: for a finite anchor of area at least the guard and
  an ordered box the guard on the union changes nothing, a row of zeros never overlaps, the labels are cut alike, and a
  reciprocal of a nonzero extent is a division.
-/
module

public import proofs.«01_k».proof.Proof.Spec
public import Mathlib.Data.EReal.Inv

@[expose] public section

noncomputable section

namespace Cert.Match

open Idealize.ShloMosaic

/-- An anchor the claim speaks of: real corners and an area at least the guard. -/
structure Good (a : Fin 4 → EReal) : Prop where
  real : ∀ k, ∃ r : ℝ, a k = (r : EReal)
  big : guardWord ≤ area a

/-- A box whose corners are in order. -/
structure Ordered (b : Fin 4 → EReal) : Prop where
  x : b 0 ≤ b 2
  y : b 1 ≤ b 3

/-- The guard is a positive real. -/
theorem guard_real : ∃ c : ℝ, 0 < c ∧ guardWord = (c : EReal) := by
  refine ⟨11258999 / 1125899906842624, by norm_num, ?_⟩
  simp [Ideal.ofBits, Ideal.ieee, -EReal.coe_mul]
  norm_num

theorem guard_pos : 0 < guardWord := by
  obtain ⟨c, hc, e⟩ := guard_real
  rw [e]; exact_mod_cast hc

/-- A good anchor's area is a real number at least the guard. -/
theorem Good.area_real {a : Fin 4 → EReal} (h : Good a) : ∃ r : ℝ, area a = (r : EReal) := by
  obtain ⟨r0, h0⟩ := h.real 0
  obtain ⟨r1, h1⟩ := h.real 1
  obtain ⟨r2, h2⟩ := h.real 2
  obtain ⟨r3, h3⟩ := h.real 3
  refine ⟨(r2 - r0) * (r3 - r1), ?_⟩
  unfold area
  rw [h0, h1, h2, h3]
  push_cast
  rfl

/-- The difference of two ordered numbers is nonnegative, or `⊥` when both are the same infinity. -/
theorem sub_of_le {x y : EReal} (h : x ≤ y) : 0 ≤ y - x ∨ y - x = ⊥ := by
  induction x using EReal.rec with
  | bot =>
    induction y using EReal.rec with
    | bot => right; rfl
    | coe y => left; simp
    | top => left; simp
  | coe x =>
    induction y using EReal.rec with
    | bot => simp at h
    | coe y => left; rw [← EReal.coe_sub]; exact_mod_cast sub_nonneg.2 (by exact_mod_cast h)
    | top => left; simp
  | top =>
    have : y = ⊤ := top_le_iff.1 h
    subst this; right; rfl

/-- An ordered box's area is nonnegative or `⊥`. -/
theorem Ordered.area {b : Fin 4 → EReal} (h : Ordered b) : 0 ≤ area b ∨ area b = ⊥ := by
  unfold Match.area
  rcases sub_of_le h.x with hx | hx <;> rcases sub_of_le h.y with hy | hy
  · exact Or.inl (mul_nonneg hx hy)
  · rw [hy]
    rcases hx.eq_or_lt with hx | hx
    · left; rw [← hx, zero_mul]
    · right; exact EReal.mul_bot_of_pos hx
  · rw [hx]
    rcases hy.eq_or_lt with hy | hy
    · left; rw [← hy, mul_zero]
    · right; exact EReal.bot_mul_of_pos hy
  · left; rw [hx, hy]; simp

/-- Zero over anything but zero is zero. -/
theorem div_zero_left {y : EReal} (h : y ≠ 0) : Ideal.div 0 y = 0 := by
  rw [Ideal.div, if_neg h, zero_mul]

/-- An intersection is nonnegative. -/
theorem inter_nonneg (a b : Fin 4 → EReal) : 0 ≤ inter a b := mul_nonneg (le_max_right _ _) (le_max_right _ _)

/-- A guarded ratio is nonnegative. -/
theorem iouG_nonneg (a b : Fin 4 → EReal) : 0 ≤ iouG a b := by
  have hp : 0 < max (uni a b) guardWord := lt_max_of_lt_right guard_pos
  unfold iouG
  rw [Ideal.div, if_neg hp.ne']
  exact mul_nonneg (inter_nonneg a b) (EReal.inv_nonneg_of_nonneg hp.le)

/-- With no intersection both ratios are zero. -/
theorem iou_of_inter_zero {a b : Fin 4 → EReal} (ha : Good a) (hb : Ordered b) (h : inter a b = 0) :
    iou a b = 0 ∧ iouG a b = 0 := by
  have hp : 0 < max (uni a b) guardWord := lt_max_of_lt_right guard_pos
  have hA : 0 < area a := guard_pos.trans_le ha.big
  refine ⟨?_, ?_⟩
  · unfold iou
    rw [h]
    apply div_zero_left
    unfold uni
    rw [h, sub_zero]
    rcases hb.area with hb | hb
    · exact (lt_of_lt_of_le hA (le_add_of_nonneg_right hb)).ne'
    · rw [hb, EReal.add_bot]; exact EReal.bot_ne_zero
  · unfold iouG
    rw [h]
    exact div_zero_left hp.ne'

/-- With an intersection the union is at least the guard. -/
theorem guard_le_uni {a b : Fin 4 → EReal} (ha : Good a) (h : inter a b ≠ 0) : guardWord ≤ uni a b := by
  obtain ⟨r0, h0⟩ := ha.real 0
  obtain ⟨r1, h1⟩ := ha.real 1
  obtain ⟨r2, h2⟩ := ha.real 2
  obtain ⟨r3, h3⟩ := ha.real 3
  have hx : 0 < min (a 2) (b 2) - max (a 0) (b 0) := by
    by_contra hn
    exact h (by unfold inter; rw [max_eq_right (not_lt.1 hn), zero_mul])
  have hy : 0 < min (a 3) (b 3) - max (a 1) (b 1) := by
    by_contra hn
    exact h (by unfold inter; rw [max_eq_right (not_lt.1 hn), mul_zero])
  have e : inter a b = (min (a 2) (b 2) - max (a 0) (b 0)) * (min (a 3) (b 3) - max (a 1) (b 1)) := by
    unfold inter; rw [max_eq_left hx.le, max_eq_left hy.le]
  have ub : inter a b ≤ area b := by
    rw [e]; unfold area
    have kx := EReal.sub_le_sub (min_le_right (a 2) (b 2)) (le_max_right (a 0) (b 0))
    have ky := EReal.sub_le_sub (min_le_right (a 3) (b 3)) (le_max_right (a 1) (b 1))
    exact mul_le_mul kx ky hy.le (hx.le.trans kx)
  have ua : inter a b ≤ area a := by
    rw [e]; unfold area
    have kx := EReal.sub_le_sub (min_le_left (a 2) (b 2)) (le_max_left (a 0) (b 0))
    have ky := EReal.sub_le_sub (min_le_left (a 3) (b 3)) (le_max_left (a 1) (b 1))
    exact mul_le_mul kx ky hy.le (hx.le.trans kx)
  obtain ⟨A, hA⟩ := ha.area_real
  obtain ⟨i, hi⟩ : ∃ i : ℝ, inter a b = (i : EReal) := by
    refine ⟨(inter a b).toReal, (EReal.coe_toReal ?_ ?_).symm⟩
    · intro ht; rw [ht, hA] at ua; exact absurd (top_le_iff.1 ua) (EReal.coe_ne_top A)
    · intro ht; have := inter_nonneg a b; rw [ht] at this; simp at this
  refine ha.big.trans ?_
  unfold uni
  rw [hi] at ub ⊢
  calc area a = area a + ((i : EReal) - (i : EReal)) := by rw [← EReal.coe_sub, sub_self, EReal.coe_zero, add_zero]
    _ = area a + (i : EReal) - (i : EReal) := by rw [sub_eq_add_neg, sub_eq_add_neg, add_assoc]
    _ ≤ area a + area b - (i : EReal) := EReal.sub_le_sub (add_le_add le_rfl ub) le_rfl

/-- The guard on the union changes nothing. -/
theorem iou_eq_iouG {a b : Fin 4 → EReal} (ha : Good a) (hb : Ordered b) : iou a b = iouG a b := by
  by_cases h : inter a b = 0
  · obtain ⟨e, e'⟩ := iou_of_inter_zero ha hb h; rw [e, e']
  · unfold iou iouG; rw [max_eq_left (guard_le_uni ha h)]

/-- A row of zeros never overlaps. -/
theorem iou_zero {a b : Fin 4 → EReal} (ha : Good a) (hb : ∀ k, b k = 0) : iou a b = 0 := by
  refine (iou_of_inter_zero ha ⟨by rw [hb, hb], by rw [hb, hb]⟩ ?_).1
  unfold inter
  rw [hb, hb, hb, hb]
  have h : min (a 2) 0 - max (a 0) 0 ≤ 0 :=
    (EReal.sub_le_sub (min_le_right (a 2) 0) (le_max_right (a 0) 0)).trans (by simp)
  rw [max_eq_right h, zero_mul]

/-- A family has one first largest index. -/
theorem isFirst_unique {n : ℕ} {f : Fin n → EReal} {i j : Fin n} (hi : IsFirst f i) (hj : IsFirst f j) : i = j := by
  rcases lt_trichotomy i j with h | h | h
  · exact absurd (hi.1 j) (not_le.2 (hj.2 i h))
  · exact h
  · exact absurd (hj.1 i) (not_le.2 (hi.2 j h))

/-- Zeros appended to a nonnegative family leave its first largest index where it was. -/
theorem isFirst_append {f : Fin 100 → EReal} {g : Fin 104 → EReal} {i : Fin 100} (hi : IsFirst f i) (hf : 0 ≤ f i)
    (hg : ∀ r : Fin 104, ∀ h : r.val < 100, g r = f ⟨r.val, h⟩) (hz : ∀ r : Fin 104, ¬ r.val < 100 → g r = 0) :
    IsFirst g ⟨i.val, by omega⟩ := by
  have e : g ⟨i.val, by omega⟩ = f i := hg _ i.isLt
  refine ⟨fun r => ?_, fun r hr => ?_⟩
  · rw [e]
    by_cases h : r.val < 100
    · rw [hg r h]; exact hi.1 _
    · rw [hz r h]; exact hf
  · have hr' : r.val < i.val := hr
    rw [e, hg r (by omega)]
    exact hi.2 _ hr'

/-- The word of 79. -/
theorem word79 : Ideal.ofBits .f32 0x429E0000#32 = ((79 : ℝ) : EReal) := by
  simp [Ideal.ofBits, Ideal.ieee, -EReal.coe_mul]
  norm_num

/-- The signed maximum of words is the maximum of the integers they stand for. -/
theorem toInt_maxsi (x y : BitVec 32) : (IntOp.maxsi x y).toInt = max x.toInt y.toInt := by
  unfold IntOp.maxsi
  by_cases h : y.slt x = true
  · rw [if_pos h]; rw [BitVec.slt_iff_toInt_lt] at h; omega
  · rw [if_neg h]; rw [BitVec.slt_iff_toInt_lt] at h; omega

/-- A number cut to 32 signed bits, as an integer. -/
theorem toInt_fptosi (x : EReal) : (Ideal.fptosi 32 x).toInt = Ideal.toIntClamped (-2147483648) 2147483647 x := by
  have hb : -2147483648 ≤ Ideal.toIntClamped (-2147483648) 2147483647 x ∧ Ideal.toIntClamped (-2147483648) 2147483647 x ≤ 2147483647 := by
    induction x using EReal.rec with
    | bot => simp
    | top => simp
    | coe r => rw [Ideal.toIntClamped_coe]; constructor <;> omega
  have e : Ideal.fptosi 32 x = BitVec.ofInt 32 (Ideal.toIntClamped (-2147483648) 2147483647 x) := rfl
  rw [e, BitVec.toInt_ofInt, Int.bmod_def]
  omega

/-- The labels: cutting to 0‥79 before or after rounding to an integer is the same. -/
theorem label_eq (x : EReal) : label x = Scalar.minsi 79#32 (Scalar.maxsi 0#32 (Ideal.fptosi 32 x)) := by
  apply BitVec.eq_of_toInt_eq
  show _ = (IntOp.minsi 79#32 (IntOp.maxsi 0#32 (Ideal.fptosi 32 x))).toInt
  rw [toInt_minsi, toInt_maxsi]
  unfold label
  rw [toInt_fptosi, toInt_fptosi, word79, show (79#32 : BitVec 32).toInt = 79 from by decide, show (0#32 : BitVec 32).toInt = 0 from by decide]
  induction x using EReal.rec with
  | bot =>
    rw [max_eq_left bot_le, min_eq_right (by exact_mod_cast (by norm_num : (0 : ℝ) ≤ 79)), ← EReal.coe_zero, Ideal.toIntClamped_coe]
    simp
  | top =>
    rw [max_eq_right le_top, min_eq_left le_top, Ideal.toIntClamped_coe]
    norm_num
  | coe r =>
    have e : min ((79 : ℝ) : EReal) (max 0 (r : EReal)) = ((min 79 (max 0 r) : ℝ) : EReal) := by
      have hm := EReal.coe_strictMono.monotone
      rw [hm.map_min, hm.map_max, EReal.coe_zero]
    have h0 : (0 : ℝ) ≤ min 79 (max 0 r) := le_min (by norm_num) (le_max_left _ _)
    rw [e, Ideal.toIntClamped_coe, Ideal.toIntClamped_coe, if_pos h0]
    by_cases hr : 0 ≤ r
    · rw [if_pos hr, max_eq_right hr]
      by_cases h79 : r ≤ 79
      · rw [min_eq_right h79]
        have : ⌊r⌋ ≤ 79 := by exact_mod_cast (Int.floor_le r).trans h79
        have : 0 ≤ ⌊r⌋ := Int.floor_nonneg.2 hr
        omega
      · rw [min_eq_left (not_le.1 h79).le]
        have : 79 ≤ ⌊r⌋ := Int.le_floor.2 (by exact_mod_cast (not_le.1 h79).le)
        have : ⌊(79 : ℝ)⌋ = 79 := by exact_mod_cast Int.floor_intCast (R := ℝ) 79
        omega
    · rw [if_neg hr, max_eq_left (not_le.1 hr).le, (min_eq_right (by norm_num) : min (79 : ℝ) 0 = 0)]
      have : ⌈r⌉ ≤ 0 := Int.ceil_le.2 (by exact_mod_cast (not_le.1 hr).le)
      have : ⌊(0 : ℝ)⌋ = 0 := Int.floor_zero
      omega

/-- The word nearest 0.2. -/
theorem word_std : Ideal.ofBits .f32 0x3E4CCCCD#32 = ((13421773 / 67108864 : ℝ) : EReal) := by
  simp [Ideal.ofBits, Ideal.ieee, -EReal.coe_mul]
  norm_num

/-- Scaling by reciprocals is scaling by divisions, over a nonzero real extent. -/
theorem scaledR_eq (g a : EReal) {w : EReal} (hw : ∃ r : ℝ, w = (r : EReal) ∧ r ≠ 0) : scaledR g a w = scaled g a w := by
  obtain ⟨r, rfl, hr⟩ := hw
  unfold scaledR scaled
  rw [word_std, Ideal.div_coe hr, Ideal.div_coe hr, Ideal.div_coe (by norm_num), one_mul]
  norm_num

/-- A good anchor's extents are nonzero reals. -/
theorem Good.extent_real {a : Fin 4 → EReal} (h : Good a) (k : Fin 4) : ∃ r : ℝ, extent a k = (r : EReal) ∧ r ≠ 0 := by
  obtain ⟨r0, h0⟩ := h.real 0
  obtain ⟨r1, h1⟩ := h.real 1
  obtain ⟨r2, h2⟩ := h.real 2
  obtain ⟨r3, h3⟩ := h.real 3
  have hp : 0 < (r2 - r0) * (r3 - r1) := by
    have := guard_pos.trans_le h.big
    unfold area at this
    rw [h0, h1, h2, h3] at this
    exact_mod_cast this
  have hx : a 2 - a 0 = ((r2 - r0 : ℝ) : EReal) := by rw [h0, h2]; rfl
  have hy : a 3 - a 1 = ((r3 - r1 : ℝ) : EReal) := by rw [h1, h3]; rfl
  have nx : r2 - r0 ≠ 0 := fun e => by rw [e, zero_mul] at hp; exact lt_irrefl _ hp
  have ny : r3 - r1 ≠ 0 := fun e => by rw [e, mul_zero] at hp; exact lt_irrefl _ hp
  unfold extent
  fin_cases k
  · exact ⟨_, hx, nx⟩
  · exact ⟨_, hy, ny⟩
  · exact ⟨_, hx, nx⟩
  · exact ⟨_, hy, ny⟩

end Cert.Match

end
-- ==== Proof.Algebra.lean ====
/-
  The kernel and the reference over the extended reals end with equal results: what the precondition says of the
  arguments, the kernel's best row as the reference's best box, and the two runs side by side.
-/
module

public import proofs.«01_k».proof.Defs
public import proofs.«01_k».proof.Proof.IdealOut
public import proofs.«01_k».proof.Proof.RefOut
public import proofs.«01_k».proof.Proof.Bridge
public import Idealize.ShloMosaic.Lib.Claim

@[expose] public section

set_option maxRecDepth 16384

noncomputable section

namespace Cert.Proof

open Idealize.ShloMosaic Idealize.ShloMosaic.TcCoe Idealize.SL Idealize.SL.Sem Cert.Match
open Cert.KernelIdeal.Hand (tab labs anc valC valR valS firstRow firstRow_spec)
open Cert.ReferenceIdeal.Hand (box anch)

/-- The annotations: eight images of a hundred boxes with a label. -/
abbrev Boxes : Type := Cert.KernelIdeal.S8x100x5.Idx → EReal

/-- The anchors. -/
abbrev Anchors : Type := Cert.KernelIdeal.S20000x4.Idx → EReal

/-- The finiteness bit of a number. -/
abbrev finBit (v : EReal) : BitVec 1 := BitVec.ofBool (decide (max v (-v) < Ideal.ofBits .f32 0x7F800000#32))

/-- The precondition's bit for a box and an anchor. -/
theorem pre_apply [Cert.Pre_ordered_boxes.Facts] (x : Boxes) (y : Anchors) (b : Fin 8) (n : Fin 20000) (r : Fin 100) :
    Cert.Pre_ordered_boxes.fn (F := Ideal) x y (ix3 b n r)
      = IntOp.andi (IntOp.andi (BitVec.ofBool (decide (x (ix3 b r 0) ≤ x (ix3 b r 2)))) (BitVec.ofBool (decide (x (ix3 b r 1) ≤ x (ix3 b r 3)))))
          (IntOp.andi (IntOp.andi (IntOp.andi (IntOp.andi (finBit (y (ix2 n 0))) (finBit (y (ix2 n 1)))) (finBit (y (ix2 n 2)))) (finBit (y (ix2 n 3))))
            (BitVec.ofBool (decide (guardWord ≤ (y (ix2 n 2) - y (ix2 n 0)) * (y (ix2 n 3) - y (ix2 n 1)))))) := by
  unfold Cert.Pre_ordered_boxes.fn Cert.Pre_ordered_boxes.fn_part1
  pointwise []
  rfl

/-- Two bits joined are one only when both are. -/
theorem andi_one {p q : BitVec 1} (h : IntOp.andi p q = 1#1) : p = 1#1 ∧ q = 1#1 := by
  revert p q; decide

/-- A condition's bit is one only when it holds. -/
theorem ofBool_one {p : Prop} [Decidable p] (h : BitVec.ofBool (decide p) = 1#1) : p := by
  by_contra hn; simp [hn] at h

/-- A number whose absolute value is below the infinity word is real. -/
theorem real_of_finBit {v : EReal} (h : finBit v = 1#1) : ∃ r : ℝ, v = (r : EReal) := by
  have h1 := ofBool_one h
  rw [show Ideal.ofBits .f32 0x7F800000#32 = (⊤ : EReal) by simp [Ideal.ofBits, Ideal.ieee]] at h1
  induction v using EReal.rec with
  | bot => simp at h1
  | coe r => exact ⟨r, rfl⟩
  | top => simp at h1

/-- The precondition: every anchor is good and every box is ordered. -/
theorem of_pre [Cert.Pre_ordered_boxes.Facts] {x : Boxes} {y : Anchors} (h : Cert.Pre_ordered_boxes.fn (F := Ideal) x y = fun _ => 1#1) :
    (∀ n, Good (anc y n)) ∧ ∀ b r, Ordered (box x b r) := by
  have key : ∀ b n r, _ := fun b n r => andi_one ((pre_apply x y b n r).symm.trans (congrFun h (ix3 b n r)))
  refine ⟨fun n => ?_, fun b r => ?_⟩
  · obtain ⟨hf, hg⟩ := andi_one (key 0 n 0).2
    obtain ⟨hf, h3⟩ := andi_one hf
    obtain ⟨hf, h2⟩ := andi_one hf
    obtain ⟨h0, h1⟩ := andi_one hf
    refine ⟨fun k => ?_, ofBool_one hg⟩
    fin_cases k
    · exact real_of_finBit h0
    · exact real_of_finBit h1
    · exact real_of_finBit h2
    · exact real_of_finBit h3
  · obtain ⟨h0, h1⟩ := andi_one (key b 0 r).1
    exact ⟨ofBool_one h0, ofBool_one h1⟩

/-- A row of the kernel's table below 100 is a box. -/
theorem tab_box (x : Boxes) (b : Fin 8) (r : Fin 104) (h : r.val < 100) : tab x b r = box x b ⟨r.val, h⟩ := by
  funext k; unfold tab; rw [dif_pos h]; rfl

/-- The kernel's best row is the reference's best box. -/
theorem best_row {x : Boxes} {y : Anchors} (ha : ∀ n, Good (anc y n)) (hb : ∀ b r, Ordered (box x b r)) (b : Fin 8) (n : Fin 20000)
    {r0 : Fin 100} (h : IsFirst (fun r : Fin 100 => iouG (anch y n) (box x b r)) r0) :
    firstRow (fun r : Fin 104 => iou (anc y n) (tab x b r)) = ⟨r0.val, by omega⟩ := by
  refine isFirst_unique (firstRow_spec _) (isFirst_append h (iouG_nonneg _ _) (fun r hr => ?_) fun r hr => ?_)
  · show iou (anc y n) (tab x b r) = _
    rw [tab_box x b r hr]
    exact iou_eq_iouG (ha n) (hb b _)
  · exact iou_zero (ha n) fun k => by unfold tab; rw [dif_neg hr]

/-- The ratio at the kernel's best row is the guarded ratio at the reference's best box. -/
theorem best_iou {x : Boxes} {y : Anchors} (ha : ∀ n, Good (anc y n)) (hb : ∀ b r, Ordered (box x b r)) (b : Fin 8) (n : Fin 20000)
    (r0 : Fin 100) : iou (anc y n) (tab x b ⟨r0.val, by omega⟩) = iouG (anch y n) (box x b r0) := by
  rw [tab_box x b _ r0.isLt]
  exact iou_eq_iouG (ha n) (hb b r0)

/-- The class targets agree. -/
theorem cls_eq {x : Boxes} {y : Anchors} (ha : ∀ n, Good (anc y n)) (hb : ∀ b r, Ordered (box x b r)) (b : Fin 8) (n : Fin 20000)
    {r0 : Fin 100} (h : IsFirst (fun r : Fin 100 => iouG (anch y n) (box x b r)) r0) (k : ℕ) :
    valC (tab x b) (labs x b) (anc y n) k
      = (if Scalar.minsi 79#32 (Scalar.maxsi 0#32 (Ideal.fptosi 32 (x (ix3 b r0 4)))) = BitVec.ofNat 32 k then 1 else 0)
        * pos (iouG (anch y n) (box x b r0)) := by
  unfold valC
  rw [best_row ha hb b n h, best_iou ha hb b n r0, label_eq]
  have e : labs x b ⟨r0.val, by omega⟩ = x (ix3 b r0 4) := by
    unfold labs; rw [dif_pos r0.isLt]
  rw [e]
  simp only [eq_comm]

/-- The regression targets agree. -/
theorem reg_eq {x : Boxes} {y : Anchors} (ha : ∀ n, Good (anc y n)) (hb : ∀ b r, Ordered (box x b r)) (b : Fin 8) (n : Fin 20000)
    {r0 : Fin 100} (h : IsFirst (fun r : Fin 100 => iouG (anch y n) (box x b r)) r0) (k : Fin 4) :
    valR (tab x b) (tab x b) (anc y n) k = scaled (box x b r0 k) (anch y n k) (extent (anch y n) k) := by
  unfold valR
  rw [best_row ha hb b n h, tab_box x b _ r0.isLt]
  exact scaledR_eq _ _ ((ha n).extent_real k)

/-- The states agree. -/
theorem state_row {x : Boxes} {y : Anchors} (ha : ∀ n, Good (anc y n)) (hb : ∀ b r, Ordered (box x b r)) (b : Fin 8) (n : Fin 20000)
    {r0 : Fin 100} (h : IsFirst (fun r : Fin 100 => iouG (anch y n) (box x b r)) r0) :
    valS (tab x b) (anc y n) = state (iouG (anch y n) (box x b r0)) := by
  unfold valS
  rw [best_row ha hb b n h, best_iou ha hb b n r0]

/-- From arguments that agree and satisfy the precondition, both programs run, their three results are equal, and their
    arguments stay. -/
theorem algebraic [Cert.Pre_ordered_boxes.Facts] : Cert.algebraic_KernelIdeal_ReferenceIdeal_pre_ordered_boxes := by
  intro m g m' g' hpre hargs
  refine ⟨_, _, _, Cert.KernelIdeal.Hand.run m g, (θ_run _ _ _).mono (fun r h c => ?_) (Cert.ReferenceIdeal.Hand.run m' g')⟩
  obtain ⟨ha, hb⟩ := of_pre (hpre c)
  obtain ⟨e0, e1⟩ := hargs c
  have hx : Cert.ReferenceIdeal.Hand.g_arg0 (StableHlo.launchContents m' c) = m ((c.tc : Thread Cert.KernelIdeal.nD Cert.KernelIdeal.τ).loc Cert.KernelIdeal.main_arg0) := e0
  have hy : Cert.ReferenceIdeal.Hand.g_arg1 (StableHlo.launchContents m' c) = m ((c.tc : Thread Cert.KernelIdeal.nD Cert.KernelIdeal.τ).loc Cert.KernelIdeal.main_arg1) := e1
  have key : ∀ (b : Fin 8) (n : Fin 20000) (r0 : Fin 100), _ → _ := fun b n r0 => Cert.ReferenceIdeal.Hand.results (StableHlo.launchContents m' c) b n r0
  rw [hx, hy] at key
  refine ⟨(h c _).trans (funext fun i => ?_), (h c _).trans (funext fun i => ?_), (h c _).trans (funext fun i => ?_),
    (h c _).trans (Cert.ReferenceIdeal.Hand.keep_arg0 _), (h c _).trans (Cert.ReferenceIdeal.Hand.keep_arg1 _)⟩
  · obtain ⟨r0, h0⟩ := exists_isFirst (fun r : Fin 100 => iouG (anch (m ((c.tc : Thread Cert.KernelIdeal.nD Cert.KernelIdeal.τ).loc Cert.KernelIdeal.main_arg1)) (i 1)) (box (m ((c.tc : Thread Cert.KernelIdeal.nD Cert.KernelIdeal.τ).loc Cert.KernelIdeal.main_arg0)) (i 0) r))
    refine Eq.trans ?_ (((key (i 0) (i 1) r0 h0).1 (i 2)).trans (cls_eq ha hb (i 0) (i 1) h0 (i 2).val).symm)
    exact congrArg _ (ix3_eta i).symm
  · obtain ⟨r0, h0⟩ := exists_isFirst (fun r : Fin 100 => iouG (anch (m ((c.tc : Thread Cert.KernelIdeal.nD Cert.KernelIdeal.τ).loc Cert.KernelIdeal.main_arg1)) (i 1)) (box (m ((c.tc : Thread Cert.KernelIdeal.nD Cert.KernelIdeal.τ).loc Cert.KernelIdeal.main_arg0)) (i 0) r))
    refine Eq.trans ?_ (((key (i 0) (i 1) r0 h0).2.1 (i 2)).trans (reg_eq ha hb (i 0) (i 1) h0 (i 2)).symm)
    exact congrArg _ (ix3_eta i).symm
  · obtain ⟨r0, h0⟩ := exists_isFirst (fun r : Fin 100 => iouG (anch (m ((c.tc : Thread Cert.KernelIdeal.nD Cert.KernelIdeal.τ).loc Cert.KernelIdeal.main_arg1)) (i 1)) (box (m ((c.tc : Thread Cert.KernelIdeal.nD Cert.KernelIdeal.τ).loc Cert.KernelIdeal.main_arg0)) (i 0) r))
    refine Eq.trans ?_ ((key (i 0) (i 1) r0 h0).2.2.trans (state_row ha hb (i 0) (i 1) h0).symm)
    exact congrArg _ (ix2_eta i).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_ordered_boxes
public import proofs.«01_k».proof.Proof.KernelRun
public import proofs.«01_k».proof.Proof.IdealRun
public import proofs.«01_k».proof.Proof.RefRun
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_ordered_boxes.Gen.facts,
    fun m g _ => Cert.Kernel.Hand.quiescent m g, fun m g _ => Cert.KernelIdeal.Hand.quiescent m g,
    fun m g _ => Cert.KernelIdeal.Hand.quiescent m g, fun m g _ => Cert.ReferenceIdeal.Hand.quiescent m g,
    fun m g _ => Cert.ReferenceIdeal.Hand.quiescent m g,
    IdealRules.named_const.statement Cert.KernelIdeal.κ "inv_std" .f32 0x40A00000#32 ((67108864 / 13421773 : ℝ) : EReal) rfl,
    algebraic⟩

end Cert.Proof

end
